-- ==== Defs.lean ====
def Pre_Kernel [hPre_roll_by_1_Kernel : Cert.Pre_roll_by_1_Kernel.Facts] (m : (ℓ : Loc Cert.Kernel.nD Cert.Kernel.τ Cert.Kernel.sig) → Buf (Elt Bits) ℓ) : Prop :=
  ∀ c : Dev Cert.Kernel.nD,
    (Cert.Pre_roll_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_2_Kernel [hPre_roll_by_2_Kernel : Cert.Pre_roll_by_2_Kernel.Facts] (m : (ℓ : Loc Cert.Kernel.nD Cert.Kernel.τ Cert.Kernel.sig) → Buf (Elt Bits) ℓ) : Prop :=
  ∀ c : Dev Cert.Kernel.nD,
    (Cert.Pre_roll_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_3_Kernel [hPre_roll_by_3_Kernel : Cert.Pre_roll_by_3_Kernel.Facts] (m : (ℓ : Loc Cert.Kernel.nD Cert.Kernel.τ Cert.Kernel.sig) → Buf (Elt Bits) ℓ) : Prop :=
  ∀ c : Dev Cert.Kernel.nD,
    (Cert.Pre_roll_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_4_Kernel [hPre_roll_by_4_Kernel : Cert.Pre_roll_by_4_Kernel.Facts] (m : (ℓ : Loc Cert.Kernel.nD Cert.Kernel.τ Cert.Kernel.sig) → Buf (Elt Bits) ℓ) : Prop :=
  ∀ c : Dev Cert.Kernel.nD,
    (Cert.Pre_roll_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_5_Kernel [hPre_roll_by_5_Kernel : Cert.Pre_roll_by_5_Kernel.Facts] (m : (ℓ : Loc Cert.Kernel.nD Cert.Kernel.τ Cert.Kernel.sig) → Buf (Elt Bits) ℓ) : Prop :=
  ∀ c : Dev Cert.Kernel.nD,
    (Cert.Pre_roll_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_6_Kernel [hPre_roll_by_6_Kernel : Cert.Pre_roll_by_6_Kernel.Facts] (m : (ℓ : Loc Cert.Kernel.nD Cert.Kernel.τ Cert.Kernel.sig) → Buf (Elt Bits) ℓ) : Prop :=
  ∀ c : Dev Cert.Kernel.nD,
    (Cert.Pre_roll_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_7_Kernel [hPre_roll_by_7_Kernel : Cert.Pre_roll_by_7_Kernel.Facts] (m : (ℓ : Loc Cert.Kernel.nD Cert.Kernel.τ Cert.Kernel.sig) → Buf (Elt Bits) ℓ) : Prop :=
  ∀ c : Dev Cert.Kernel.nD,
    (Cert.Pre_roll_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_8_Kernel [hPre_roll_by_8_Kernel : Cert.Pre_roll_by_8_Kernel.Facts] (m : (ℓ : Loc Cert.Kernel.nD Cert.Kernel.τ Cert.Kernel.sig) → Buf (Elt Bits) ℓ) : Prop :=
  ∀ c : Dev Cert.Kernel.nD,
    (Cert.Pre_roll_by_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_9_Kernel [hPre_roll_by_9_Kernel : Cert.Pre_roll_by_9_Kernel.Facts] (m : (ℓ : Loc Cert.Kernel.nD Cert.Kernel.τ Cert.Kernel.sig) → Buf (Elt Bits) ℓ) : Prop :=
  ∀ c : Dev Cert.Kernel.nD,
    (Cert.Pre_roll_by_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_10_Kernel [hPre_roll_by_10_Kernel : Cert.Pre_roll_by_10_Kernel.Facts] (m : (ℓ : Loc Cert.Kernel.nD Cert.Kernel.τ Cert.Kernel.sig) → Buf (Elt Bits) ℓ) : Prop :=
  ∀ c : Dev Cert.Kernel.nD,
    (Cert.Pre_roll_by_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_11_Kernel [hPre_roll_by_11_Kernel : Cert.Pre_roll_by_11_Kernel.Facts] (m : (ℓ : Loc Cert.Kernel.nD Cert.Kernel.τ Cert.Kernel.sig) → Buf (Elt Bits) ℓ) : Prop :=
  ∀ c : Dev Cert.Kernel.nD,
    (Cert.Pre_roll_by_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_12_Kernel [hPre_roll_by_12_Kernel : Cert.Pre_roll_by_12_Kernel.Facts] (m : (ℓ : Loc Cert.Kernel.nD Cert.Kernel.τ Cert.Kernel.sig) → Buf (Elt Bits) ℓ) : Prop :=
  ∀ c : Dev Cert.Kernel.nD,
    (Cert.Pre_roll_by_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_13_Kernel [hPre_roll_by_13_Kernel : Cert.Pre_roll_by_13_Kernel.Facts] (m : (ℓ : Loc Cert.Kernel.nD Cert.Kernel.τ Cert.Kernel.sig) → Buf (Elt Bits) ℓ) : Prop :=
  ∀ c : Dev Cert.Kernel.nD,
    (Cert.Pre_roll_by_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_14_Kernel [hPre_roll_by_14_Kernel : Cert.Pre_roll_by_14_Kernel.Facts] (m : (ℓ : Loc Cert.Kernel.nD Cert.Kernel.τ Cert.Kernel.sig) → Buf (Elt Bits) ℓ) : Prop :=
  ∀ c : Dev Cert.Kernel.nD,
    (Cert.Pre_roll_by_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_by_15_Kernel [hPre_roll_by_15_Kernel : Cert.Pre_roll_by_15_Kernel.Facts] (m : (ℓ : Loc Cert.Kernel.nD Cert.Kernel.τ Cert.Kernel.sig) → Buf (Elt Bits) ℓ) : Prop :=
  ∀ c : Dev Cert.Kernel.nD,
    (Cert.Pre_roll_by_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_roll_by_1_Kernel : Cert.Pre_roll_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_2_Kernel [hPre_roll_by_2_Kernel : Cert.Pre_roll_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_3_Kernel [hPre_roll_by_3_Kernel : Cert.Pre_roll_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_4_Kernel [hPre_roll_by_4_Kernel : Cert.Pre_roll_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_5_Kernel [hPre_roll_by_5_Kernel : Cert.Pre_roll_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_6_Kernel [hPre_roll_by_6_Kernel : Cert.Pre_roll_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_7_Kernel [hPre_roll_by_7_Kernel : Cert.Pre_roll_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_8_Kernel [hPre_roll_by_8_Kernel : Cert.Pre_roll_by_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_9_Kernel [hPre_roll_by_9_Kernel : Cert.Pre_roll_by_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_10_Kernel [hPre_roll_by_10_Kernel : Cert.Pre_roll_by_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_11_Kernel [hPre_roll_by_11_Kernel : Cert.Pre_roll_by_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_12_Kernel [hPre_roll_by_12_Kernel : Cert.Pre_roll_by_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_13_Kernel [hPre_roll_by_13_Kernel : Cert.Pre_roll_by_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_14_Kernel [hPre_roll_by_14_Kernel : Cert.Pre_roll_by_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_by_15_Kernel [hPre_roll_by_15_Kernel : Cert.Pre_roll_by_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_by_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roll_by_1_ReferenceIdeal [hPre_roll_by_1_ReferenceIdeal : Cert.Pre_roll_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_2_ReferenceIdeal [hPre_roll_by_2_ReferenceIdeal : Cert.Pre_roll_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_3_ReferenceIdeal [hPre_roll_by_3_ReferenceIdeal : Cert.Pre_roll_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_4_ReferenceIdeal [hPre_roll_by_4_ReferenceIdeal : Cert.Pre_roll_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_5_ReferenceIdeal [hPre_roll_by_5_ReferenceIdeal : Cert.Pre_roll_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_6_ReferenceIdeal [hPre_roll_by_6_ReferenceIdeal : Cert.Pre_roll_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_7_ReferenceIdeal [hPre_roll_by_7_ReferenceIdeal : Cert.Pre_roll_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_8_ReferenceIdeal [hPre_roll_by_8_ReferenceIdeal : Cert.Pre_roll_by_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_9_ReferenceIdeal [hPre_roll_by_9_ReferenceIdeal : Cert.Pre_roll_by_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_10_ReferenceIdeal [hPre_roll_by_10_ReferenceIdeal : Cert.Pre_roll_by_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_11_ReferenceIdeal [hPre_roll_by_11_ReferenceIdeal : Cert.Pre_roll_by_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_12_ReferenceIdeal [hPre_roll_by_12_ReferenceIdeal : Cert.Pre_roll_by_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_13_ReferenceIdeal [hPre_roll_by_13_ReferenceIdeal : Cert.Pre_roll_by_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_14_ReferenceIdeal [hPre_roll_by_14_ReferenceIdeal : Cert.Pre_roll_by_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_by_15_ReferenceIdeal [hPre_roll_by_15_ReferenceIdeal : Cert.Pre_roll_by_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_by_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_roll_by_1_Kernel : Cert.Pre_roll_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_2_Kernel [hKernel : Cert.Kernel.Facts] [hPre_roll_by_2_Kernel : Cert.Pre_roll_by_2_Kernel.Facts] : Prop :=
  ∀ (m : (ℓ : Loc Cert.Kernel.nD Cert.Kernel.τ Cert.Kernel.sig) → Buf (Elt Bits) ℓ) (g : Dev Cert.Kernel.nD → PrngReg), Pre_Kernel_roll_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_3_Kernel [hKernel : Cert.Kernel.Facts] [hPre_roll_by_3_Kernel : Cert.Pre_roll_by_3_Kernel.Facts] : Prop :=
  ∀ (m : (ℓ : Loc Cert.Kernel.nD Cert.Kernel.τ Cert.Kernel.sig) → Buf (Elt Bits) ℓ) (g : Dev Cert.Kernel.nD → PrngReg), Pre_Kernel_roll_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_4_Kernel [hKernel : Cert.Kernel.Facts] [hPre_roll_by_4_Kernel : Cert.Pre_roll_by_4_Kernel.Facts] : Prop :=
  ∀ (m : (ℓ : Loc Cert.Kernel.nD Cert.Kernel.τ Cert.Kernel.sig) → Buf (Elt Bits) ℓ) (g : Dev Cert.Kernel.nD → PrngReg), Pre_Kernel_roll_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_5_Kernel [hKernel : Cert.Kernel.Facts] [hPre_roll_by_5_Kernel : Cert.Pre_roll_by_5_Kernel.Facts] : Prop :=
  ∀ (m : (ℓ : Loc Cert.Kernel.nD Cert.Kernel.τ Cert.Kernel.sig) → Buf (Elt Bits) ℓ) (g : Dev Cert.Kernel.nD → PrngReg), Pre_Kernel_roll_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_6_Kernel [hKernel : Cert.Kernel.Facts] [hPre_roll_by_6_Kernel : Cert.Pre_roll_by_6_Kernel.Facts] : Prop :=
  ∀ (m : (ℓ : Loc Cert.Kernel.nD Cert.Kernel.τ Cert.Kernel.sig) → Buf (Elt Bits) ℓ) (g : Dev Cert.Kernel.nD → PrngReg), Pre_Kernel_roll_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_7_Kernel [hKernel : Cert.Kernel.Facts] [hPre_roll_by_7_Kernel : Cert.Pre_roll_by_7_Kernel.Facts] : Prop :=
  ∀ (m : (ℓ : Loc Cert.Kernel.nD Cert.Kernel.τ Cert.Kernel.sig) → Buf (Elt Bits) ℓ) (g : Dev Cert.Kernel.nD → PrngReg), Pre_Kernel_roll_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_8_Kernel [hKernel : Cert.Kernel.Facts] [hPre_roll_by_8_Kernel : Cert.Pre_roll_by_8_Kernel.Facts] : Prop :=
  ∀ (m : (ℓ : Loc Cert.Kernel.nD Cert.Kernel.τ Cert.Kernel.sig) → Buf (Elt Bits) ℓ) (g : Dev Cert.Kernel.nD → PrngReg), Pre_Kernel_roll_by_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_9_Kernel [hKernel : Cert.Kernel.Facts] [hPre_roll_by_9_Kernel : Cert.Pre_roll_by_9_Kernel.Facts] : Prop :=
  ∀ (m : (ℓ : Loc Cert.Kernel.nD Cert.Kernel.τ Cert.Kernel.sig) → Buf (Elt Bits) ℓ) (g : Dev Cert.Kernel.nD → PrngReg), Pre_Kernel_roll_by_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_10_Kernel [hKernel : Cert.Kernel.Facts] [hPre_roll_by_10_Kernel : Cert.Pre_roll_by_10_Kernel.Facts] : Prop :=
  ∀ (m : (ℓ : Loc Cert.Kernel.nD Cert.Kernel.τ Cert.Kernel.sig) → Buf (Elt Bits) ℓ) (g : Dev Cert.Kernel.nD → PrngReg), Pre_Kernel_roll_by_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_11_Kernel [hKernel : Cert.Kernel.Facts] [hPre_roll_by_11_Kernel : Cert.Pre_roll_by_11_Kernel.Facts] : Prop :=
  ∀ (m : (ℓ : Loc Cert.Kernel.nD Cert.Kernel.τ Cert.Kernel.sig) → Buf (Elt Bits) ℓ) (g : Dev Cert.Kernel.nD → PrngReg), Pre_Kernel_roll_by_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_12_Kernel [hKernel : Cert.Kernel.Facts] [hPre_roll_by_12_Kernel : Cert.Pre_roll_by_12_Kernel.Facts] : Prop :=
  ∀ (m : (ℓ : Loc Cert.Kernel.nD Cert.Kernel.τ Cert.Kernel.sig) → Buf (Elt Bits) ℓ) (g : Dev Cert.Kernel.nD → PrngReg), Pre_Kernel_roll_by_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_13_Kernel [hKernel : Cert.Kernel.Facts] [hPre_roll_by_13_Kernel : Cert.Pre_roll_by_13_Kernel.Facts] : Prop :=
  ∀ (m : (ℓ : Loc Cert.Kernel.nD Cert.Kernel.τ Cert.Kernel.sig) → Buf (Elt Bits) ℓ) (g : Dev Cert.Kernel.nD → PrngReg), Pre_Kernel_roll_by_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_14_Kernel [hKernel : Cert.Kernel.Facts] [hPre_roll_by_14_Kernel : Cert.Pre_roll_by_14_Kernel.Facts] : Prop :=
  ∀ (m : (ℓ : Loc Cert.Kernel.nD Cert.Kernel.τ Cert.Kernel.sig) → Buf (Elt Bits) ℓ) (g : Dev Cert.Kernel.nD → PrngReg), Pre_Kernel_roll_by_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_by_15_Kernel [hKernel : Cert.Kernel.Facts] [hPre_roll_by_15_Kernel : Cert.Pre_roll_by_15_Kernel.Facts] : Prop :=
  ∀ (m : (ℓ : Loc Cert.Kernel.nD Cert.Kernel.τ Cert.Kernel.sig) → Buf (Elt Bits) ℓ) (g : Dev Cert.Kernel.nD → PrngReg), Pre_Kernel_roll_by_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_roll_by_1_Kernel : Cert.Pre_roll_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_2_Kernel [hKernelIdeal : Cert.KernelIdeal.Facts] [hPre_roll_by_2_Kernel : Cert.Pre_roll_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_3_Kernel [hKernelIdeal : Cert.KernelIdeal.Facts] [hPre_roll_by_3_Kernel : Cert.Pre_roll_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_4_Kernel [hKernelIdeal : Cert.KernelIdeal.Facts] [hPre_roll_by_4_Kernel : Cert.Pre_roll_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_5_Kernel [hKernelIdeal : Cert.KernelIdeal.Facts] [hPre_roll_by_5_Kernel : Cert.Pre_roll_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_6_Kernel [hKernelIdeal : Cert.KernelIdeal.Facts] [hPre_roll_by_6_Kernel : Cert.Pre_roll_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_7_Kernel [hKernelIdeal : Cert.KernelIdeal.Facts] [hPre_roll_by_7_Kernel : Cert.Pre_roll_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_8_Kernel [hKernelIdeal : Cert.KernelIdeal.Facts] [hPre_roll_by_8_Kernel : Cert.Pre_roll_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_9_Kernel [hKernelIdeal : Cert.KernelIdeal.Facts] [hPre_roll_by_9_Kernel : Cert.Pre_roll_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_10_Kernel [hKernelIdeal : Cert.KernelIdeal.Facts] [hPre_roll_by_10_Kernel : Cert.Pre_roll_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_11_Kernel [hKernelIdeal : Cert.KernelIdeal.Facts] [hPre_roll_by_11_Kernel : Cert.Pre_roll_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_12_Kernel [hKernelIdeal : Cert.KernelIdeal.Facts] [hPre_roll_by_12_Kernel : Cert.Pre_roll_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_13_Kernel [hKernelIdeal : Cert.KernelIdeal.Facts] [hPre_roll_by_13_Kernel : Cert.Pre_roll_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_14_Kernel [hKernelIdeal : Cert.KernelIdeal.Facts] [hPre_roll_by_14_Kernel : Cert.Pre_roll_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_by_15_Kernel [hKernelIdeal : Cert.KernelIdeal.Facts] [hPre_roll_by_15_Kernel : Cert.Pre_roll_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_by_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_1_ReferenceIdeal [hReferenceIdeal : Cert.ReferenceIdeal.Facts] [hPre_roll_by_1_ReferenceIdeal : Cert.Pre_roll_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_2_ReferenceIdeal [hReferenceIdeal : Cert.ReferenceIdeal.Facts] [hPre_roll_by_2_ReferenceIdeal : Cert.Pre_roll_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_3_ReferenceIdeal [hReferenceIdeal : Cert.ReferenceIdeal.Facts] [hPre_roll_by_3_ReferenceIdeal : Cert.Pre_roll_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_4_ReferenceIdeal [hReferenceIdeal : Cert.ReferenceIdeal.Facts] [hPre_roll_by_4_ReferenceIdeal : Cert.Pre_roll_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_5_ReferenceIdeal [hReferenceIdeal : Cert.ReferenceIdeal.Facts] [hPre_roll_by_5_ReferenceIdeal : Cert.Pre_roll_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_6_ReferenceIdeal [hReferenceIdeal : Cert.ReferenceIdeal.Facts] [hPre_roll_by_6_ReferenceIdeal : Cert.Pre_roll_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_7_ReferenceIdeal [hReferenceIdeal : Cert.ReferenceIdeal.Facts] [hPre_roll_by_7_ReferenceIdeal : Cert.Pre_roll_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_8_ReferenceIdeal [hReferenceIdeal : Cert.ReferenceIdeal.Facts] [hPre_roll_by_8_ReferenceIdeal : Cert.Pre_roll_by_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_9_ReferenceIdeal [hReferenceIdeal : Cert.ReferenceIdeal.Facts] [hPre_roll_by_9_ReferenceIdeal : Cert.Pre_roll_by_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_10_ReferenceIdeal [hReferenceIdeal : Cert.ReferenceIdeal.Facts] [hPre_roll_by_10_ReferenceIdeal : Cert.Pre_roll_by_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_11_ReferenceIdeal [hReferenceIdeal : Cert.ReferenceIdeal.Facts] [hPre_roll_by_11_ReferenceIdeal : Cert.Pre_roll_by_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_12_ReferenceIdeal [hReferenceIdeal : Cert.ReferenceIdeal.Facts] [hPre_roll_by_12_ReferenceIdeal : Cert.Pre_roll_by_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_13_ReferenceIdeal [hReferenceIdeal : Cert.ReferenceIdeal.Facts] [hPre_roll_by_13_ReferenceIdeal : Cert.Pre_roll_by_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_14_ReferenceIdeal [hReferenceIdeal : Cert.ReferenceIdeal.Facts] [hPre_roll_by_14_ReferenceIdeal : Cert.Pre_roll_by_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_by_15_ReferenceIdeal [hReferenceIdeal : Cert.ReferenceIdeal.Facts] [hPre_roll_by_15_ReferenceIdeal : Cert.Pre_roll_by_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_by_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_roll_by_1_Kernel : Cert.Pre_roll_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_2_Kernel [hKernelIdeal : Cert.KernelIdeal.Facts] [hReferenceIdeal : Cert.ReferenceIdeal.Facts] [hPre_roll_by_2_Kernel : Cert.Pre_roll_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_2_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_3_Kernel [hKernelIdeal : Cert.KernelIdeal.Facts] [hReferenceIdeal : Cert.ReferenceIdeal.Facts] [hPre_roll_by_3_Kernel : Cert.Pre_roll_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_3_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_4_Kernel [hKernelIdeal : Cert.KernelIdeal.Facts] [hReferenceIdeal : Cert.ReferenceIdeal.Facts] [hPre_roll_by_4_Kernel : Cert.Pre_roll_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_4_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_5_Kernel [hKernelIdeal : Cert.KernelIdeal.Facts] [hReferenceIdeal : Cert.ReferenceIdeal.Facts] [hPre_roll_by_5_Kernel : Cert.Pre_roll_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_5_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_6_Kernel [hKernelIdeal : Cert.KernelIdeal.Facts] [hReferenceIdeal : Cert.ReferenceIdeal.Facts] [hPre_roll_by_6_Kernel : Cert.Pre_roll_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_6_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_7_Kernel [hKernelIdeal : Cert.KernelIdeal.Facts] [hReferenceIdeal : Cert.ReferenceIdeal.Facts] [hPre_roll_by_7_Kernel : Cert.Pre_roll_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_7_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_8_Kernel [hKernelIdeal : Cert.KernelIdeal.Facts] [hReferenceIdeal : Cert.ReferenceIdeal.Facts] [hPre_roll_by_8_Kernel : Cert.Pre_roll_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_8_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_9_Kernel [hKernelIdeal : Cert.KernelIdeal.Facts] [hReferenceIdeal : Cert.ReferenceIdeal.Facts] [hPre_roll_by_9_Kernel : Cert.Pre_roll_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_9_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_10_Kernel [hKernelIdeal : Cert.KernelIdeal.Facts] [hReferenceIdeal : Cert.ReferenceIdeal.Facts] [hPre_roll_by_10_Kernel : Cert.Pre_roll_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_10_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_11_Kernel [hKernelIdeal : Cert.KernelIdeal.Facts] [hReferenceIdeal : Cert.ReferenceIdeal.Facts] [hPre_roll_by_11_Kernel : Cert.Pre_roll_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_11_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_12_Kernel [hKernelIdeal : Cert.KernelIdeal.Facts] [hReferenceIdeal : Cert.ReferenceIdeal.Facts] [hPre_roll_by_12_Kernel : Cert.Pre_roll_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_12_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_13_Kernel [hKernelIdeal : Cert.KernelIdeal.Facts] [hReferenceIdeal : Cert.ReferenceIdeal.Facts] [hPre_roll_by_13_Kernel : Cert.Pre_roll_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_13_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_14_Kernel [hKernelIdeal : Cert.KernelIdeal.Facts] [hReferenceIdeal : Cert.ReferenceIdeal.Facts] [hPre_roll_by_14_Kernel : Cert.Pre_roll_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_14_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_by_15_Kernel [hKernelIdeal : Cert.KernelIdeal.Facts] [hReferenceIdeal : Cert.ReferenceIdeal.Facts] [hPre_roll_by_15_Kernel : Cert.Pre_roll_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_by_15_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨3, ![1, 1024, 1024]⟩ ⟨3, ![16, 1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_roll_by_1_Kernel : Cert.Pre_roll_by_1_Kernel.Facts) (hPre_roll_by_2_Kernel : Cert.Pre_roll_by_2_Kernel.Facts) (hPre_roll_by_3_Kernel : Cert.Pre_roll_by_3_Kernel.Facts) (hPre_roll_by_4_Kernel : Cert.Pre_roll_by_4_Kernel.Facts) (hPre_roll_by_5_Kernel : Cert.Pre_roll_by_5_Kernel.Facts) (hPre_roll_by_6_Kernel : Cert.Pre_roll_by_6_Kernel.Facts) (hPre_roll_by_7_Kernel : Cert.Pre_roll_by_7_Kernel.Facts) (hPre_roll_by_8_Kernel : Cert.Pre_roll_by_8_Kernel.Facts) (hPre_roll_by_9_Kernel : Cert.Pre_roll_by_9_Kernel.Facts) (hPre_roll_by_10_Kernel : Cert.Pre_roll_by_10_Kernel.Facts) (hPre_roll_by_11_Kernel : Cert.Pre_roll_by_11_Kernel.Facts) (hPre_roll_by_12_Kernel : Cert.Pre_roll_by_12_Kernel.Facts) (hPre_roll_by_13_Kernel : Cert.Pre_roll_by_13_Kernel.Facts) (hPre_roll_by_14_Kernel : Cert.Pre_roll_by_14_Kernel.Facts) (hPre_roll_by_15_Kernel : Cert.Pre_roll_by_15_Kernel.Facts) (hPre_roll_by_1_ReferenceIdeal : Cert.Pre_roll_by_1_ReferenceIdeal.Facts) (hPre_roll_by_2_ReferenceIdeal : Cert.Pre_roll_by_2_ReferenceIdeal.Facts) (hPre_roll_by_3_ReferenceIdeal : Cert.Pre_roll_by_3_ReferenceIdeal.Facts) (hPre_roll_by_4_ReferenceIdeal : Cert.Pre_roll_by_4_ReferenceIdeal.Facts) (hPre_roll_by_5_ReferenceIdeal : Cert.Pre_roll_by_5_ReferenceIdeal.Facts) (hPre_roll_by_6_ReferenceIdeal : Cert.Pre_roll_by_6_ReferenceIdeal.Facts) (hPre_roll_by_7_ReferenceIdeal : Cert.Pre_roll_by_7_ReferenceIdeal.Facts) (hPre_roll_by_8_ReferenceIdeal : Cert.Pre_roll_by_8_ReferenceIdeal.Facts) (hPre_roll_by_9_ReferenceIdeal : Cert.Pre_roll_by_9_ReferenceIdeal.Facts) (hPre_roll_by_10_ReferenceIdeal : Cert.Pre_roll_by_10_ReferenceIdeal.Facts) (hPre_roll_by_11_ReferenceIdeal : Cert.Pre_roll_by_11_ReferenceIdeal.Facts) (hPre_roll_by_12_ReferenceIdeal : Cert.Pre_roll_by_12_ReferenceIdeal.Facts) (hPre_roll_by_13_ReferenceIdeal : Cert.Pre_roll_by_13_ReferenceIdeal.Facts) (hPre_roll_by_14_ReferenceIdeal : Cert.Pre_roll_by_14_ReferenceIdeal.Facts) (hPre_roll_by_15_ReferenceIdeal : Cert.Pre_roll_by_15_ReferenceIdeal.Facts),
    quiescent_Kernel (hKernel := hKernel) (hPre_roll_by_1_Kernel := hPre_roll_by_1_Kernel)
    ∧ quiescent_Kernel_pre_roll_by_2_Kernel (hKernel := hKernel) (hPre_roll_by_2_Kernel := hPre_roll_by_2_Kernel)
    ∧ quiescent_Kernel_pre_roll_by_3_Kernel (hKernel := hKernel) (hPre_roll_by_3_Kernel := hPre_roll_by_3_Kernel)
    ∧ quiescent_Kernel_pre_roll_by_4_Kernel (hKernel := hKernel) (hPre_roll_by_4_Kernel := hPre_roll_by_4_Kernel)
    ∧ quiescent_Kernel_pre_roll_by_5_Kernel (hKernel := hKernel) (hPre_roll_by_5_Kernel := hPre_roll_by_5_Kernel)
    ∧ quiescent_Kernel_pre_roll_by_6_Kernel (hKernel := hKernel) (hPre_roll_by_6_Kernel := hPre_roll_by_6_Kernel)
    ∧ quiescent_Kernel_pre_roll_by_7_Kernel (hKernel := hKernel) (hPre_roll_by_7_Kernel := hPre_roll_by_7_Kernel)
    ∧ quiescent_Kernel_pre_roll_by_8_Kernel (hKernel := hKernel) (hPre_roll_by_8_Kernel := hPre_roll_by_8_Kernel)
    ∧ quiescent_Kernel_pre_roll_by_9_Kernel (hKernel := hKernel) (hPre_roll_by_9_Kernel := hPre_roll_by_9_Kernel)
    ∧ quiescent_Kernel_pre_roll_by_10_Kernel (hKernel := hKernel) (hPre_roll_by_10_Kernel := hPre_roll_by_10_Kernel)
    ∧ quiescent_Kernel_pre_roll_by_11_Kernel (hKernel := hKernel) (hPre_roll_by_11_Kernel := hPre_roll_by_11_Kernel)
    ∧ quiescent_Kernel_pre_roll_by_12_Kernel (hKernel := hKernel) (hPre_roll_by_12_Kernel := hPre_roll_by_12_Kernel)
    ∧ quiescent_Kernel_pre_roll_by_13_Kernel (hKernel := hKernel) (hPre_roll_by_13_Kernel := hPre_roll_by_13_Kernel)
    ∧ quiescent_Kernel_pre_roll_by_14_Kernel (hKernel := hKernel) (hPre_roll_by_14_Kernel := hPre_roll_by_14_Kernel)
    ∧ quiescent_Kernel_pre_roll_by_15_Kernel (hKernel := hKernel) (hPre_roll_by_15_Kernel := hPre_roll_by_15_Kernel)
    ∧ quiescent_KernelIdeal (hKernelIdeal := hKernelIdeal) (hPre_roll_by_1_Kernel := hPre_roll_by_1_Kernel)
    ∧ quiescent_KernelIdeal_pre_roll_by_2_Kernel (hKernelIdeal := hKernelIdeal) (hPre_roll_by_2_Kernel := hPre_roll_by_2_Kernel)
    ∧ quiescent_KernelIdeal_pre_roll_by_3_Kernel (hKernelIdeal := hKernelIdeal) (hPre_roll_by_3_Kernel := hPre_roll_by_3_Kernel)
    ∧ quiescent_KernelIdeal_pre_roll_by_4_Kernel (hKernelIdeal := hKernelIdeal) (hPre_roll_by_4_Kernel := hPre_roll_by_4_Kernel)
    ∧ quiescent_KernelIdeal_pre_roll_by_5_Kernel (hKernelIdeal := hKernelIdeal) (hPre_roll_by_5_Kernel := hPre_roll_by_5_Kernel)
    ∧ quiescent_KernelIdeal_pre_roll_by_6_Kernel (hKernelIdeal := hKernelIdeal) (hPre_roll_by_6_Kernel := hPre_roll_by_6_Kernel)
    ∧ quiescent_KernelIdeal_pre_roll_by_7_Kernel (hKernelIdeal := hKernelIdeal) (hPre_roll_by_7_Kernel := hPre_roll_by_7_Kernel)
    ∧ quiescent_KernelIdeal_pre_roll_by_8_Kernel (hKernelIdeal := hKernelIdeal) (hPre_roll_by_8_Kernel := hPre_roll_by_8_Kernel)
    ∧ quiescent_KernelIdeal_pre_roll_by_9_Kernel (hKernelIdeal := hKernelIdeal) (hPre_roll_by_9_Kernel := hPre_roll_by_9_Kernel)
    ∧ quiescent_KernelIdeal_pre_roll_by_10_Kernel (hKernelIdeal := hKernelIdeal) (hPre_roll_by_10_Kernel := hPre_roll_by_10_Kernel)
    ∧ quiescent_KernelIdeal_pre_roll_by_11_Kernel (hKernelIdeal := hKernelIdeal) (hPre_roll_by_11_Kernel := hPre_roll_by_11_Kernel)
    ∧ quiescent_KernelIdeal_pre_roll_by_12_Kernel (hKernelIdeal := hKernelIdeal) (hPre_roll_by_12_Kernel := hPre_roll_by_12_Kernel)
    ∧ quiescent_KernelIdeal_pre_roll_by_13_Kernel (hKernelIdeal := hKernelIdeal) (hPre_roll_by_13_Kernel := hPre_roll_by_13_Kernel)
    ∧ quiescent_KernelIdeal_pre_roll_by_14_Kernel (hKernelIdeal := hKernelIdeal) (hPre_roll_by_14_Kernel := hPre_roll_by_14_Kernel)
    ∧ quiescent_KernelIdeal_pre_roll_by_15_Kernel (hKernelIdeal := hKernelIdeal) (hPre_roll_by_15_Kernel := hPre_roll_by_15_Kernel)
    ∧ quiescent_ReferenceIdeal (hReferenceIdeal := hReferenceIdeal)
    ∧ quiescent_ReferenceIdeal_pre_roll_by_1_ReferenceIdeal (hReferenceIdeal := hReferenceIdeal) (hPre_roll_by_1_ReferenceIdeal := hPre_roll_by_1_ReferenceIdeal)
    ∧ quiescent_ReferenceIdeal_pre_roll_by_2_ReferenceIdeal (hReferenceIdeal := hReferenceIdeal) (hPre_roll_by_2_ReferenceIdeal := hPre_roll_by_2_ReferenceIdeal)
    ∧ quiescent_ReferenceIdeal_pre_roll_by_3_ReferenceIdeal (hReferenceIdeal := hReferenceIdeal) (hPre_roll_by_3_ReferenceIdeal := hPre_roll_by_3_ReferenceIdeal)
    ∧ quiescent_ReferenceIdeal_pre_roll_by_4_ReferenceIdeal (hReferenceIdeal := hReferenceIdeal) (hPre_roll_by_4_ReferenceIdeal := hPre_roll_by_4_ReferenceIdeal)
    ∧ quiescent_ReferenceIdeal_pre_roll_by_5_ReferenceIdeal (hReferenceIdeal := hReferenceIdeal) (hPre_roll_by_5_ReferenceIdeal := hPre_roll_by_5_ReferenceIdeal)
    ∧ quiescent_ReferenceIdeal_pre_roll_by_6_ReferenceIdeal (hReferenceIdeal := hReferenceIdeal) (hPre_roll_by_6_ReferenceIdeal := hPre_roll_by_6_ReferenceIdeal)
    ∧ quiescent_ReferenceIdeal_pre_roll_by_7_ReferenceIdeal (hReferenceIdeal := hReferenceIdeal) (hPre_roll_by_7_ReferenceIdeal := hPre_roll_by_7_ReferenceIdeal)
    ∧ quiescent_ReferenceIdeal_pre_roll_by_8_ReferenceIdeal (hReferenceIdeal := hReferenceIdeal) (hPre_roll_by_8_ReferenceIdeal := hPre_roll_by_8_ReferenceIdeal)
    ∧ quiescent_ReferenceIdeal_pre_roll_by_9_ReferenceIdeal (hReferenceIdeal := hReferenceIdeal) (hPre_roll_by_9_ReferenceIdeal := hPre_roll_by_9_ReferenceIdeal)
    ∧ quiescent_ReferenceIdeal_pre_roll_by_10_ReferenceIdeal (hReferenceIdeal := hReferenceIdeal) (hPre_roll_by_10_ReferenceIdeal := hPre_roll_by_10_ReferenceIdeal)
    ∧ quiescent_ReferenceIdeal_pre_roll_by_11_ReferenceIdeal (hReferenceIdeal := hReferenceIdeal) (hPre_roll_by_11_ReferenceIdeal := hPre_roll_by_11_ReferenceIdeal)
    ∧ quiescent_ReferenceIdeal_pre_roll_by_12_ReferenceIdeal (hReferenceIdeal := hReferenceIdeal) (hPre_roll_by_12_ReferenceIdeal := hPre_roll_by_12_ReferenceIdeal)
    ∧ quiescent_ReferenceIdeal_pre_roll_by_13_ReferenceIdeal (hReferenceIdeal := hReferenceIdeal) (hPre_roll_by_13_ReferenceIdeal := hPre_roll_by_13_ReferenceIdeal)
    ∧ quiescent_ReferenceIdeal_pre_roll_by_14_ReferenceIdeal (hReferenceIdeal := hReferenceIdeal) (hPre_roll_by_14_ReferenceIdeal := hPre_roll_by_14_ReferenceIdeal)
    ∧ quiescent_ReferenceIdeal_pre_roll_by_15_ReferenceIdeal (hReferenceIdeal := hReferenceIdeal) (hPre_roll_by_15_ReferenceIdeal := hPre_roll_by_15_ReferenceIdeal)
    ∧ preserves_Kernel_KernelIdeal
    ∧ algebraic_KernelIdeal_ReferenceIdeal (hKernelIdeal := hKernelIdeal) (hReferenceIdeal := hReferenceIdeal) (hPre_roll_by_1_Kernel := hPre_roll_by_1_Kernel)
    ∧ algebraic_KernelIdeal_ReferenceIdeal_pre_roll_by_2_Kernel (hKernelIdeal := hKernelIdeal) (hReferenceIdeal := hReferenceIdeal) (hPre_roll_by_2_Kernel := hPre_roll_by_2_Kernel)
    ∧ algebraic_KernelIdeal_ReferenceIdeal_pre_roll_by_3_Kernel (hKernelIdeal := hKernelIdeal) (hReferenceIdeal := hReferenceIdeal) (hPre_roll_by_3_Kernel := hPre_roll_by_3_Kernel)
    ∧ algebraic_KernelIdeal_ReferenceIdeal_pre_roll_by_4_Kernel (hKernelIdeal := hKernelIdeal) (hReferenceIdeal := hReferenceIdeal) (hPre_roll_by_4_Kernel := hPre_roll_by_4_Kernel)
    ∧ algebraic_KernelIdeal_ReferenceIdeal_pre_roll_by_5_Kernel (hKernelIdeal := hKernelIdeal) (hReferenceIdeal := hReferenceIdeal) (hPre_roll_by_5_Kernel := hPre_roll_by_5_Kernel)
    ∧ algebraic_KernelIdeal_ReferenceIdeal_pre_roll_by_6_Kernel (hKernelIdeal := hKernelIdeal) (hReferenceIdeal := hReferenceIdeal) (hPre_roll_by_6_Kernel := hPre_roll_by_6_Kernel)
    ∧ algebraic_KernelIdeal_ReferenceIdeal_pre_roll_by_7_Kernel (hKernelIdeal := hKernelIdeal) (hReferenceIdeal := hReferenceIdeal) (hPre_roll_by_7_Kernel := hPre_roll_by_7_Kernel)
    ∧ algebraic_KernelIdeal_ReferenceIdeal_pre_roll_by_8_Kernel (hKernelIdeal := hKernelIdeal) (hReferenceIdeal := hReferenceIdeal) (hPre_roll_by_8_Kernel := hPre_roll_by_8_Kernel)
    ∧ algebraic_KernelIdeal_ReferenceIdeal_pre_roll_by_9_Kernel (hKernelIdeal := hKernelIdeal) (hReferenceIdeal := hReferenceIdeal) (hPre_roll_by_9_Kernel := hPre_roll_by_9_Kernel)
    ∧ algebraic_KernelIdeal_ReferenceIdeal_pre_roll_by_10_Kernel (hKernelIdeal := hKernelIdeal) (hReferenceIdeal := hReferenceIdeal) (hPre_roll_by_10_Kernel := hPre_roll_by_10_Kernel)
    ∧ algebraic_KernelIdeal_ReferenceIdeal_pre_roll_by_11_Kernel (hKernelIdeal := hKernelIdeal) (hReferenceIdeal := hReferenceIdeal) (hPre_roll_by_11_Kernel := hPre_roll_by_11_Kernel)
    ∧ algebraic_KernelIdeal_ReferenceIdeal_pre_roll_by_12_Kernel (hKernelIdeal := hKernelIdeal) (hReferenceIdeal := hReferenceIdeal) (hPre_roll_by_12_Kernel := hPre_roll_by_12_Kernel)
    ∧ algebraic_KernelIdeal_ReferenceIdeal_pre_roll_by_13_Kernel (hKernelIdeal := hKernelIdeal) (hReferenceIdeal := hReferenceIdeal) (hPre_roll_by_13_Kernel := hPre_roll_by_13_Kernel)
    ∧ algebraic_KernelIdeal_ReferenceIdeal_pre_roll_by_14_Kernel (hKernelIdeal := hKernelIdeal) (hReferenceIdeal := hReferenceIdeal) (hPre_roll_by_14_Kernel := hPre_roll_by_14_Kernel)
    ∧ algebraic_KernelIdeal_ReferenceIdeal_pre_roll_by_15_Kernel (hKernelIdeal := hKernelIdeal) (hReferenceIdeal := hReferenceIdeal) (hPre_roll_by_15_Kernel := hPre_roll_by_15_Kernel)
-- ==== Pre_roll_by_10_Kernel.lean ====
abbrev S1x1024x1024 : Shape := ⟨3, ![1, 1024, 1024]⟩
abbrev S16 : Shape := ⟨1, ![16]⟩
abbrev S10 : Shape := ⟨1, ![10]⟩
abbrev S6 : Shape := ⟨1, ![6]⟩

class Facts : Prop where
  slices_S16_S10_6 : S16.Slices ![6] S10
  slices_S16_S6_0 : S16.Slices ![0] S6
  concatenates_S10_S6_S16_d0 : Shape.Concatenates [S10, S6] S16 0

variable [Facts]

def fn_roll_static {F : FTy → Type} [FloatOps F] (arg0 : IVec S16 32) : IVec S16 32 :=
  let v0 : IVec S10 32 := (extractStridedSlice S10 ![6] · slices_S16_S10_6) arg0
  let v1 : IVec S6 32 := (extractStridedSlice S6 ![0] · slices_S16_S6_0) arg0
  let v2 : IVec S16 32 := (fun a b => concatenate S16 0 [⟨S10, a⟩, ⟨S6, b⟩] concatenates_S10_S6_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_10_ReferenceIdeal.lean ====
abbrev S16x1024x1024 : Shape := ⟨3, ![16, 1024, 1024]⟩
abbrev S16 : Shape := ⟨1, ![16]⟩
abbrev S10 : Shape := ⟨1, ![10]⟩
abbrev S6 : Shape := ⟨1, ![6]⟩

class Facts : Prop where
  slices_S16_S10_6 : S16.Slices ![6] S10
  slices_S16_S6_0 : S16.Slices ![0] S6
  concatenates_S10_S6_S16_d0 : Shape.Concatenates [S10, S6] S16 0

variable [Facts]

def fn_roll_static {F : FTy → Type} [FloatOps F] (arg0 : IVec S16 32) : IVec S16 32 :=
  let v0 : IVec S10 32 := (extractStridedSlice S10 ![6] · slices_S16_S10_6) arg0
  let v1 : IVec S6 32 := (extractStridedSlice S6 ![0] · slices_S16_S6_0) arg0
  let v2 : IVec S16 32 := (fun a b => concatenate S16 0 [⟨S10, a⟩, ⟨S6, b⟩] concatenates_S10_S6_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_11_Kernel.lean ====
abbrev S1x1024x1024 : Shape := ⟨3, ![1, 1024, 1024]⟩
abbrev S16 : Shape := ⟨1, ![16]⟩
abbrev S11 : Shape := ⟨1, ![11]⟩
abbrev S5 : Shape := ⟨1, ![5]⟩

class Facts : Prop where
  slices_S16_S11_5 : S16.Slices ![5] S11
  slices_S16_S5_0 : S16.Slices ![0] S5
  concatenates_S11_S5_S16_d0 : Shape.Concatenates [S11, S5] S16 0

variable [Facts]

def fn_roll_static {F : FTy → Type} [FloatOps F] (arg0 : IVec S16 32) : IVec S16 32 :=
  let v0 : IVec S11 32 := (extractStridedSlice S11 ![5] · slices_S16_S11_5) arg0
  let v1 : IVec S5 32 := (extractStridedSlice S5 ![0] · slices_S16_S5_0) arg0
  let v2 : IVec S16 32 := (fun a b => concatenate S16 0 [⟨S11, a⟩, ⟨S5, b⟩] concatenates_S11_S5_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_11_ReferenceIdeal.lean ====
abbrev S16x1024x1024 : Shape := ⟨3, ![16, 1024, 1024]⟩
abbrev S16 : Shape := ⟨1, ![16]⟩
abbrev S11 : Shape := ⟨1, ![11]⟩
abbrev S5 : Shape := ⟨1, ![5]⟩

class Facts : Prop where
  slices_S16_S11_5 : S16.Slices ![5] S11
  slices_S16_S5_0 : S16.Slices ![0] S5
  concatenates_S11_S5_S16_d0 : Shape.Concatenates [S11, S5] S16 0

variable [Facts]

def fn_roll_static {F : FTy → Type} [FloatOps F] (arg0 : IVec S16 32) : IVec S16 32 :=
  let v0 : IVec S11 32 := (extractStridedSlice S11 ![5] · slices_S16_S11_5) arg0
  let v1 : IVec S5 32 := (extractStridedSlice S5 ![0] · slices_S16_S5_0) arg0
  let v2 : IVec S16 32 := (fun a b => concatenate S16 0 [⟨S11, a⟩, ⟨S5, b⟩] concatenates_S11_S5_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_12_Kernel.lean ====
abbrev S1x1024x1024 : Shape := ⟨3, ![1, 1024, 1024]⟩
abbrev S16 : Shape := ⟨1, ![16]⟩
abbrev S12 : Shape := ⟨1, ![12]⟩
abbrev S4 : Shape := ⟨1, ![4]⟩

class Facts : Prop where
  slices_S16_S12_4 : S16.Slices ![4] S12
  slices_S16_S4_0 : S16.Slices ![0] S4
  concatenates_S12_S4_S16_d0 : Shape.Concatenates [S12, S4] S16 0

variable [Facts]

def fn_roll_static {F : FTy → Type} [FloatOps F] (arg0 : IVec S16 32) : IVec S16 32 :=
  let v0 : IVec S12 32 := (extractStridedSlice S12 ![4] · slices_S16_S12_4) arg0
  let v1 : IVec S4 32 := (extractStridedSlice S4 ![0] · slices_S16_S4_0) arg0
  let v2 : IVec S16 32 := (fun a b => concatenate S16 0 [⟨S12, a⟩, ⟨S4, b⟩] concatenates_S12_S4_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_12_ReferenceIdeal.lean ====
abbrev S16x1024x1024 : Shape := ⟨3, ![16, 1024, 1024]⟩
abbrev S16 : Shape := ⟨1, ![16]⟩
abbrev S12 : Shape := ⟨1, ![12]⟩
abbrev S4 : Shape := ⟨1, ![4]⟩

class Facts : Prop where
  slices_S16_S12_4 : S16.Slices ![4] S12
  slices_S16_S4_0 : S16.Slices ![0] S4
  concatenates_S12_S4_S16_d0 : Shape.Concatenates [S12, S4] S16 0

variable [Facts]

def fn_roll_static {F : FTy → Type} [FloatOps F] (arg0 : IVec S16 32) : IVec S16 32 :=
  let v0 : IVec S12 32 := (extractStridedSlice S12 ![4] · slices_S16_S12_4) arg0
  let v1 : IVec S4 32 := (extractStridedSlice S4 ![0] · slices_S16_S4_0) arg0
  let v2 : IVec S16 32 := (fun a b => concatenate S16 0 [⟨S12, a⟩, ⟨S4, b⟩] concatenates_S12_S4_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_13_Kernel.lean ====
abbrev S1x1024x1024 : Shape := ⟨3, ![1, 1024, 1024]⟩
abbrev S16 : Shape := ⟨1, ![16]⟩
abbrev S13 : Shape := ⟨1, ![13]⟩
abbrev S3 : Shape := ⟨1, ![3]⟩

class Facts : Prop where
  slices_S16_S13_3 : S16.Slices ![3] S13
  slices_S16_S3_0 : S16.Slices ![0] S3
  concatenates_S13_S3_S16_d0 : Shape.Concatenates [S13, S3] S16 0

variable [Facts]

def fn_roll_static {F : FTy → Type} [FloatOps F] (arg0 : IVec S16 32) : IVec S16 32 :=
  let v0 : IVec S13 32 := (extractStridedSlice S13 ![3] · slices_S16_S13_3) arg0
  let v1 : IVec S3 32 := (extractStridedSlice S3 ![0] · slices_S16_S3_0) arg0
  let v2 : IVec S16 32 := (fun a b => concatenate S16 0 [⟨S13, a⟩, ⟨S3, b⟩] concatenates_S13_S3_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_13_ReferenceIdeal.lean ====
abbrev S16x1024x1024 : Shape := ⟨3, ![16, 1024, 1024]⟩
abbrev S16 : Shape := ⟨1, ![16]⟩
abbrev S13 : Shape := ⟨1, ![13]⟩
abbrev S3 : Shape := ⟨1, ![3]⟩

class Facts : Prop where
  slices_S16_S13_3 : S16.Slices ![3] S13
  slices_S16_S3_0 : S16.Slices ![0] S3
  concatenates_S13_S3_S16_d0 : Shape.Concatenates [S13, S3] S16 0

variable [Facts]

def fn_roll_static {F : FTy → Type} [FloatOps F] (arg0 : IVec S16 32) : IVec S16 32 :=
  let v0 : IVec S13 32 := (extractStridedSlice S13 ![3] · slices_S16_S13_3) arg0
  let v1 : IVec S3 32 := (extractStridedSlice S3 ![0] · slices_S16_S3_0) arg0
  let v2 : IVec S16 32 := (fun a b => concatenate S16 0 [⟨S13, a⟩, ⟨S3, b⟩] concatenates_S13_S3_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_14_Kernel.lean ====
abbrev S1x1024x1024 : Shape := ⟨3, ![1, 1024, 1024]⟩
abbrev S16 : Shape := ⟨1, ![16]⟩
abbrev S14 : Shape := ⟨1, ![14]⟩
abbrev S2 : Shape := ⟨1, ![2]⟩

class Facts : Prop where
  slices_S16_S14_2 : S16.Slices ![2] S14
  slices_S16_S2_0 : S16.Slices ![0] S2
  concatenates_S14_S2_S16_d0 : Shape.Concatenates [S14, S2] S16 0

variable [Facts]

def fn_roll_static {F : FTy → Type} [FloatOps F] (arg0 : IVec S16 32) : IVec S16 32 :=
  let v0 : IVec S14 32 := (extractStridedSlice S14 ![2] · slices_S16_S14_2) arg0
  let v1 : IVec S2 32 := (extractStridedSlice S2 ![0] · slices_S16_S2_0) arg0
  let v2 : IVec S16 32 := (fun a b => concatenate S16 0 [⟨S14, a⟩, ⟨S2, b⟩] concatenates_S14_S2_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_14_ReferenceIdeal.lean ====
abbrev S16x1024x1024 : Shape := ⟨3, ![16, 1024, 1024]⟩
abbrev S16 : Shape := ⟨1, ![16]⟩
abbrev S14 : Shape := ⟨1, ![14]⟩
abbrev S2 : Shape := ⟨1, ![2]⟩

class Facts : Prop where
  slices_S16_S14_2 : S16.Slices ![2] S14
  slices_S16_S2_0 : S16.Slices ![0] S2
  concatenates_S14_S2_S16_d0 : Shape.Concatenates [S14, S2] S16 0

variable [Facts]

def fn_roll_static {F : FTy → Type} [FloatOps F] (arg0 : IVec S16 32) : IVec S16 32 :=
  let v0 : IVec S14 32 := (extractStridedSlice S14 ![2] · slices_S16_S14_2) arg0
  let v1 : IVec S2 32 := (extractStridedSlice S2 ![0] · slices_S16_S2_0) arg0
  let v2 : IVec S16 32 := (fun a b => concatenate S16 0 [⟨S14, a⟩, ⟨S2, b⟩] concatenates_S14_S2_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_15_Kernel.lean ====
abbrev S1x1024x1024 : Shape := ⟨3, ![1, 1024, 1024]⟩
abbrev S16 : Shape := ⟨1, ![16]⟩
abbrev S15 : Shape := ⟨1, ![15]⟩
abbrev S1 : Shape := ⟨1, ![1]⟩

class Facts : Prop where
  slices_S16_S15_1 : S16.Slices ![1] S15
  slices_S16_S1_0 : S16.Slices ![0] S1
  concatenates_S15_S1_S16_d0 : Shape.Concatenates [S15, S1] S16 0

variable [Facts]

def fn_roll_static {F : FTy → Type} [FloatOps F] (arg0 : IVec S16 32) : IVec S16 32 :=
  let v0 : IVec S15 32 := (extractStridedSlice S15 ![1] · slices_S16_S15_1) arg0
  let v1 : IVec S1 32 := (extractStridedSlice S1 ![0] · slices_S16_S1_0) arg0
  let v2 : IVec S16 32 := (fun a b => concatenate S16 0 [⟨S15, a⟩, ⟨S1, b⟩] concatenates_S15_S1_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_15_ReferenceIdeal.lean ====
abbrev S16x1024x1024 : Shape := ⟨3, ![16, 1024, 1024]⟩
abbrev S16 : Shape := ⟨1, ![16]⟩
abbrev S15 : Shape := ⟨1, ![15]⟩
abbrev S1 : Shape := ⟨1, ![1]⟩

class Facts : Prop where
  slices_S16_S15_1 : S16.Slices ![1] S15
  slices_S16_S1_0 : S16.Slices ![0] S1
  concatenates_S15_S1_S16_d0 : Shape.Concatenates [S15, S1] S16 0

variable [Facts]

def fn_roll_static {F : FTy → Type} [FloatOps F] (arg0 : IVec S16 32) : IVec S16 32 :=
  let v0 : IVec S15 32 := (extractStridedSlice S15 ![1] · slices_S16_S15_1) arg0
  let v1 : IVec S1 32 := (extractStridedSlice S1 ![0] · slices_S16_S1_0) arg0
  let v2 : IVec S16 32 := (fun a b => concatenate S16 0 [⟨S15, a⟩, ⟨S1, b⟩] concatenates_S15_S1_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_1_Kernel.lean ====
abbrev S1x1024x1024 : Shape := ⟨3, ![1, 1024, 1024]⟩
abbrev S16 : Shape := ⟨1, ![16]⟩
abbrev S1 : Shape := ⟨1, ![1]⟩
abbrev S15 : Shape := ⟨1, ![15]⟩

class Facts : Prop where
  slices_S16_S1_15 : S16.Slices ![15] S1
  slices_S16_S15_0 : S16.Slices ![0] S15
  concatenates_S1_S15_S16_d0 : Shape.Concatenates [S1, S15] S16 0

variable [Facts]

def fn_roll_static {F : FTy → Type} [FloatOps F] (arg0 : IVec S16 32) : IVec S16 32 :=
  let v0 : IVec S1 32 := (extractStridedSlice S1 ![15] · slices_S16_S1_15) arg0
  let v1 : IVec S15 32 := (extractStridedSlice S15 ![0] · slices_S16_S15_0) arg0
  let v2 : IVec S16 32 := (fun a b => concatenate S16 0 [⟨S1, a⟩, ⟨S15, b⟩] concatenates_S1_S15_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_1_ReferenceIdeal.lean ====
abbrev S16x1024x1024 : Shape := ⟨3, ![16, 1024, 1024]⟩
abbrev S16 : Shape := ⟨1, ![16]⟩
abbrev S1 : Shape := ⟨1, ![1]⟩
abbrev S15 : Shape := ⟨1, ![15]⟩

class Facts : Prop where
  slices_S16_S1_15 : S16.Slices ![15] S1
  slices_S16_S15_0 : S16.Slices ![0] S15
  concatenates_S1_S15_S16_d0 : Shape.Concatenates [S1, S15] S16 0

variable [Facts]

def fn_roll_static {F : FTy → Type} [FloatOps F] (arg0 : IVec S16 32) : IVec S16 32 :=
  let v0 : IVec S1 32 := (extractStridedSlice S1 ![15] · slices_S16_S1_15) arg0
  let v1 : IVec S15 32 := (extractStridedSlice S15 ![0] · slices_S16_S15_0) arg0
  let v2 : IVec S16 32 := (fun a b => concatenate S16 0 [⟨S1, a⟩, ⟨S15, b⟩] concatenates_S1_S15_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_2_Kernel.lean ====
abbrev S1x1024x1024 : Shape := ⟨3, ![1, 1024, 1024]⟩
abbrev S16 : Shape := ⟨1, ![16]⟩
abbrev S2 : Shape := ⟨1, ![2]⟩
abbrev S14 : Shape := ⟨1, ![14]⟩

class Facts : Prop where
  slices_S16_S2_14 : S16.Slices ![14] S2
  slices_S16_S14_0 : S16.Slices ![0] S14
  concatenates_S2_S14_S16_d0 : Shape.Concatenates [S2, S14] S16 0

variable [Facts]

def fn_roll_static {F : FTy → Type} [FloatOps F] (arg0 : IVec S16 32) : IVec S16 32 :=
  let v0 : IVec S2 32 := (extractStridedSlice S2 ![14] · slices_S16_S2_14) arg0
  let v1 : IVec S14 32 := (extractStridedSlice S14 ![0] · slices_S16_S14_0) arg0
  let v2 : IVec S16 32 := (fun a b => concatenate S16 0 [⟨S2, a⟩, ⟨S14, b⟩] concatenates_S2_S14_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_2_ReferenceIdeal.lean ====
abbrev S16x1024x1024 : Shape := ⟨3, ![16, 1024, 1024]⟩
abbrev S16 : Shape := ⟨1, ![16]⟩
abbrev S2 : Shape := ⟨1, ![2]⟩
abbrev S14 : Shape := ⟨1, ![14]⟩

class Facts : Prop where
  slices_S16_S2_14 : S16.Slices ![14] S2
  slices_S16_S14_0 : S16.Slices ![0] S14
  concatenates_S2_S14_S16_d0 : Shape.Concatenates [S2, S14] S16 0

variable [Facts]

def fn_roll_static {F : FTy → Type} [FloatOps F] (arg0 : IVec S16 32) : IVec S16 32 :=
  let v0 : IVec S2 32 := (extractStridedSlice S2 ![14] · slices_S16_S2_14) arg0
  let v1 : IVec S14 32 := (extractStridedSlice S14 ![0] · slices_S16_S14_0) arg0
  let v2 : IVec S16 32 := (fun a b => concatenate S16 0 [⟨S2, a⟩, ⟨S14, b⟩] concatenates_S2_S14_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_3_Kernel.lean ====
abbrev S1x1024x1024 : Shape := ⟨3, ![1, 1024, 1024]⟩
abbrev S16 : Shape := ⟨1, ![16]⟩
abbrev S3 : Shape := ⟨1, ![3]⟩
abbrev S13 : Shape := ⟨1, ![13]⟩

class Facts : Prop where
  slices_S16_S3_13 : S16.Slices ![13] S3
  slices_S16_S13_0 : S16.Slices ![0] S13
  concatenates_S3_S13_S16_d0 : Shape.Concatenates [S3, S13] S16 0

variable [Facts]

def fn_roll_static {F : FTy → Type} [FloatOps F] (arg0 : IVec S16 32) : IVec S16 32 :=
  let v0 : IVec S3 32 := (extractStridedSlice S3 ![13] · slices_S16_S3_13) arg0
  let v1 : IVec S13 32 := (extractStridedSlice S13 ![0] · slices_S16_S13_0) arg0
  let v2 : IVec S16 32 := (fun a b => concatenate S16 0 [⟨S3, a⟩, ⟨S13, b⟩] concatenates_S3_S13_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_3_ReferenceIdeal.lean ====
abbrev S16x1024x1024 : Shape := ⟨3, ![16, 1024, 1024]⟩
abbrev S16 : Shape := ⟨1, ![16]⟩
abbrev S3 : Shape := ⟨1, ![3]⟩
abbrev S13 : Shape := ⟨1, ![13]⟩

class Facts : Prop where
  slices_S16_S3_13 : S16.Slices ![13] S3
  slices_S16_S13_0 : S16.Slices ![0] S13
  concatenates_S3_S13_S16_d0 : Shape.Concatenates [S3, S13] S16 0

variable [Facts]

def fn_roll_static {F : FTy → Type} [FloatOps F] (arg0 : IVec S16 32) : IVec S16 32 :=
  let v0 : IVec S3 32 := (extractStridedSlice S3 ![13] · slices_S16_S3_13) arg0
  let v1 : IVec S13 32 := (extractStridedSlice S13 ![0] · slices_S16_S13_0) arg0
  let v2 : IVec S16 32 := (fun a b => concatenate S16 0 [⟨S3, a⟩, ⟨S13, b⟩] concatenates_S3_S13_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_4_Kernel.lean ====
abbrev S1x1024x1024 : Shape := ⟨3, ![1, 1024, 1024]⟩
abbrev S16 : Shape := ⟨1, ![16]⟩
abbrev S4 : Shape := ⟨1, ![4]⟩
abbrev S12 : Shape := ⟨1, ![12]⟩

class Facts : Prop where
  slices_S16_S4_12 : S16.Slices ![12] S4
  slices_S16_S12_0 : S16.Slices ![0] S12
  concatenates_S4_S12_S16_d0 : Shape.Concatenates [S4, S12] S16 0

variable [Facts]

def fn_roll_static {F : FTy → Type} [FloatOps F] (arg0 : IVec S16 32) : IVec S16 32 :=
  let v0 : IVec S4 32 := (extractStridedSlice S4 ![12] · slices_S16_S4_12) arg0
  let v1 : IVec S12 32 := (extractStridedSlice S12 ![0] · slices_S16_S12_0) arg0
  let v2 : IVec S16 32 := (fun a b => concatenate S16 0 [⟨S4, a⟩, ⟨S12, b⟩] concatenates_S4_S12_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_4_ReferenceIdeal.lean ====
abbrev S16x1024x1024 : Shape := ⟨3, ![16, 1024, 1024]⟩
abbrev S16 : Shape := ⟨1, ![16]⟩
abbrev S4 : Shape := ⟨1, ![4]⟩
abbrev S12 : Shape := ⟨1, ![12]⟩

class Facts : Prop where
  slices_S16_S4_12 : S16.Slices ![12] S4
  slices_S16_S12_0 : S16.Slices ![0] S12
  concatenates_S4_S12_S16_d0 : Shape.Concatenates [S4, S12] S16 0

variable [Facts]

def fn_roll_static {F : FTy → Type} [FloatOps F] (arg0 : IVec S16 32) : IVec S16 32 :=
  let v0 : IVec S4 32 := (extractStridedSlice S4 ![12] · slices_S16_S4_12) arg0
  let v1 : IVec S12 32 := (extractStridedSlice S12 ![0] · slices_S16_S12_0) arg0
  let v2 : IVec S16 32 := (fun a b => concatenate S16 0 [⟨S4, a⟩, ⟨S12, b⟩] concatenates_S4_S12_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_5_Kernel.lean ====
abbrev S1x1024x1024 : Shape := ⟨3, ![1, 1024, 1024]⟩
abbrev S16 : Shape := ⟨1, ![16]⟩
abbrev S5 : Shape := ⟨1, ![5]⟩
abbrev S11 : Shape := ⟨1, ![11]⟩

class Facts : Prop where
  slices_S16_S5_11 : S16.Slices ![11] S5
  slices_S16_S11_0 : S16.Slices ![0] S11
  concatenates_S5_S11_S16_d0 : Shape.Concatenates [S5, S11] S16 0

variable [Facts]

def fn_roll_static {F : FTy → Type} [FloatOps F] (arg0 : IVec S16 32) : IVec S16 32 :=
  let v0 : IVec S5 32 := (extractStridedSlice S5 ![11] · slices_S16_S5_11) arg0
  let v1 : IVec S11 32 := (extractStridedSlice S11 ![0] · slices_S16_S11_0) arg0
  let v2 : IVec S16 32 := (fun a b => concatenate S16 0 [⟨S5, a⟩, ⟨S11, b⟩] concatenates_S5_S11_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_5_ReferenceIdeal.lean ====
abbrev S16x1024x1024 : Shape := ⟨3, ![16, 1024, 1024]⟩
abbrev S16 : Shape := ⟨1, ![16]⟩
abbrev S5 : Shape := ⟨1, ![5]⟩
abbrev S11 : Shape := ⟨1, ![11]⟩

class Facts : Prop where
  slices_S16_S5_11 : S16.Slices ![11] S5
  slices_S16_S11_0 : S16.Slices ![0] S11
  concatenates_S5_S11_S16_d0 : Shape.Concatenates [S5, S11] S16 0

variable [Facts]

def fn_roll_static {F : FTy → Type} [FloatOps F] (arg0 : IVec S16 32) : IVec S16 32 :=
  let v0 : IVec S5 32 := (extractStridedSlice S5 ![11] · slices_S16_S5_11) arg0
  let v1 : IVec S11 32 := (extractStridedSlice S11 ![0] · slices_S16_S11_0) arg0
  let v2 : IVec S16 32 := (fun a b => concatenate S16 0 [⟨S5, a⟩, ⟨S11, b⟩] concatenates_S5_S11_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_6_Kernel.lean ====
abbrev S1x1024x1024 : Shape := ⟨3, ![1, 1024, 1024]⟩
abbrev S16 : Shape := ⟨1, ![16]⟩
abbrev S6 : Shape := ⟨1, ![6]⟩
abbrev S10 : Shape := ⟨1, ![10]⟩

class Facts : Prop where
  slices_S16_S6_10 : S16.Slices ![10] S6
  slices_S16_S10_0 : S16.Slices ![0] S10
  concatenates_S6_S10_S16_d0 : Shape.Concatenates [S6, S10] S16 0

variable [Facts]

def fn_roll_static {F : FTy → Type} [FloatOps F] (arg0 : IVec S16 32) : IVec S16 32 :=
  let v0 : IVec S6 32 := (extractStridedSlice S6 ![10] · slices_S16_S6_10) arg0
  let v1 : IVec S10 32 := (extractStridedSlice S10 ![0] · slices_S16_S10_0) arg0
  let v2 : IVec S16 32 := (fun a b => concatenate S16 0 [⟨S6, a⟩, ⟨S10, b⟩] concatenates_S6_S10_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_6_ReferenceIdeal.lean ====
abbrev S16x1024x1024 : Shape := ⟨3, ![16, 1024, 1024]⟩
abbrev S16 : Shape := ⟨1, ![16]⟩
abbrev S6 : Shape := ⟨1, ![6]⟩
abbrev S10 : Shape := ⟨1, ![10]⟩

class Facts : Prop where
  slices_S16_S6_10 : S16.Slices ![10] S6
  slices_S16_S10_0 : S16.Slices ![0] S10
  concatenates_S6_S10_S16_d0 : Shape.Concatenates [S6, S10] S16 0

variable [Facts]

def fn_roll_static {F : FTy → Type} [FloatOps F] (arg0 : IVec S16 32) : IVec S16 32 :=
  let v0 : IVec S6 32 := (extractStridedSlice S6 ![10] · slices_S16_S6_10) arg0
  let v1 : IVec S10 32 := (extractStridedSlice S10 ![0] · slices_S16_S10_0) arg0
  let v2 : IVec S16 32 := (fun a b => concatenate S16 0 [⟨S6, a⟩, ⟨S10, b⟩] concatenates_S6_S10_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_7_Kernel.lean ====
abbrev S1x1024x1024 : Shape := ⟨3, ![1, 1024, 1024]⟩
abbrev S16 : Shape := ⟨1, ![16]⟩
abbrev S7 : Shape := ⟨1, ![7]⟩
abbrev S9 : Shape := ⟨1, ![9]⟩

class Facts : Prop where
  slices_S16_S7_9 : S16.Slices ![9] S7
  slices_S16_S9_0 : S16.Slices ![0] S9
  concatenates_S7_S9_S16_d0 : Shape.Concatenates [S7, S9] S16 0

variable [Facts]

def fn_roll_static {F : FTy → Type} [FloatOps F] (arg0 : IVec S16 32) : IVec S16 32 :=
  let v0 : IVec S7 32 := (extractStridedSlice S7 ![9] · slices_S16_S7_9) arg0
  let v1 : IVec S9 32 := (extractStridedSlice S9 ![0] · slices_S16_S9_0) arg0
  let v2 : IVec S16 32 := (fun a b => concatenate S16 0 [⟨S7, a⟩, ⟨S9, b⟩] concatenates_S7_S9_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_7_ReferenceIdeal.lean ====
abbrev S16x1024x1024 : Shape := ⟨3, ![16, 1024, 1024]⟩
abbrev S16 : Shape := ⟨1, ![16]⟩
abbrev S7 : Shape := ⟨1, ![7]⟩
abbrev S9 : Shape := ⟨1, ![9]⟩

class Facts : Prop where
  slices_S16_S7_9 : S16.Slices ![9] S7
  slices_S16_S9_0 : S16.Slices ![0] S9
  concatenates_S7_S9_S16_d0 : Shape.Concatenates [S7, S9] S16 0

variable [Facts]

def fn_roll_static {F : FTy → Type} [FloatOps F] (arg0 : IVec S16 32) : IVec S16 32 :=
  let v0 : IVec S7 32 := (extractStridedSlice S7 ![9] · slices_S16_S7_9) arg0
  let v1 : IVec S9 32 := (extractStridedSlice S9 ![0] · slices_S16_S9_0) arg0
  let v2 : IVec S16 32 := (fun a b => concatenate S16 0 [⟨S7, a⟩, ⟨S9, b⟩] concatenates_S7_S9_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_8_Kernel.lean ====
abbrev S1x1024x1024 : Shape := ⟨3, ![1, 1024, 1024]⟩
abbrev S16 : Shape := ⟨1, ![16]⟩
abbrev S8 : Shape := ⟨1, ![8]⟩

class Facts : Prop where
  slices_S16_S8_8 : S16.Slices ![8] S8
  slices_S16_S8_0 : S16.Slices ![0] S8
  concatenates_S8_S8_S16_d0 : Shape.Concatenates [S8, S8] S16 0

variable [Facts]

def fn_roll_static {F : FTy → Type} [FloatOps F] (arg0 : IVec S16 32) : IVec S16 32 :=
  let v0 : IVec S8 32 := (extractStridedSlice S8 ![8] · slices_S16_S8_8) arg0
  let v1 : IVec S8 32 := (extractStridedSlice S8 ![0] · slices_S16_S8_0) arg0
  let v2 : IVec S16 32 := (fun a b => concatenate S16 0 [⟨S8, a⟩, ⟨S8, b⟩] concatenates_S8_S8_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_8_ReferenceIdeal.lean ====
abbrev S16x1024x1024 : Shape := ⟨3, ![16, 1024, 1024]⟩
abbrev S16 : Shape := ⟨1, ![16]⟩
abbrev S8 : Shape := ⟨1, ![8]⟩

class Facts : Prop where
  slices_S16_S8_8 : S16.Slices ![8] S8
  slices_S16_S8_0 : S16.Slices ![0] S8
  concatenates_S8_S8_S16_d0 : Shape.Concatenates [S8, S8] S16 0

variable [Facts]

def fn_roll_static {F : FTy → Type} [FloatOps F] (arg0 : IVec S16 32) : IVec S16 32 :=
  let v0 : IVec S8 32 := (extractStridedSlice S8 ![8] · slices_S16_S8_8) arg0
  let v1 : IVec S8 32 := (extractStridedSlice S8 ![0] · slices_S16_S8_0) arg0
  let v2 : IVec S16 32 := (fun a b => concatenate S16 0 [⟨S8, a⟩, ⟨S8, b⟩] concatenates_S8_S8_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_9_Kernel.lean ====
abbrev S1x1024x1024 : Shape := ⟨3, ![1, 1024, 1024]⟩
abbrev S16 : Shape := ⟨1, ![16]⟩
abbrev S9 : Shape := ⟨1, ![9]⟩
abbrev S7 : Shape := ⟨1, ![7]⟩

class Facts : Prop where
  slices_S16_S9_7 : S16.Slices ![7] S9
  slices_S16_S7_0 : S16.Slices ![0] S7
  concatenates_S9_S7_S16_d0 : Shape.Concatenates [S9, S7] S16 0

variable [Facts]

def fn_roll_static {F : FTy → Type} [FloatOps F] (arg0 : IVec S16 32) : IVec S16 32 :=
  let v0 : IVec S9 32 := (extractStridedSlice S9 ![7] · slices_S16_S9_7) arg0
  let v1 : IVec S7 32 := (extractStridedSlice S7 ![0] · slices_S16_S7_0) arg0
  let v2 : IVec S16 32 := (fun a b => concatenate S16 0 [⟨S9, a⟩, ⟨S7, b⟩] concatenates_S9_S7_S16_d0) v0 v1
  v2

def fn {F : FTy → Type} [FloatOps F] (main_arg0 : FVec F S1x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Pre_roll_by_9_ReferenceIdeal.lean ====
abbrev S16x1024x1024 : Shape := ⟨3, ![16, 1024, 1024]⟩
abbrev S16 : Shape := ⟨1, ![16]⟩
abbrev S9 : Shape := ⟨1, ![9]⟩
abbrev S7 : Shape := ⟨1, ![7]⟩

class Facts : Prop where
  slices_S16_S9_7 : S16.Slices ![7] S9
  slices_S16_S7_0 : S16.Slices ![0] S7
  concatenates_S9_S7_S16_d0 : Shape.Concatenates [S9, S7] S16 0

variable [Facts]

def fn_roll_static {F : FTy → Type} [FloatOps F] (arg0 : IVec S16 32) : IVec S16 32 :=
  let v0 : IVec S9 32 := (extractStridedSlice S9 ![7] · slices_S16_S9_7) arg0
  let v1 : IVec S7 32 := (extractStridedSlice S7 ![0] · slices_S16_S7_0) arg0
  let v2 : IVec S16 32 := (fun a b => concatenate S16 0 [⟨S9, a⟩, ⟨S7, b⟩] concatenates_S9_S7_S16_d0) v0 v1
  v2

def fn {F : FTy → Type} [FloatOps F] (main_arg0 : FVec F S16x1024x1024 .bf16) (main_arg1 : IVec S16 32) : IVec S16 1 :=
  let main_v0 : IVec S16 32 := iotaInDim S16 32 0
  let main_v1 : IVec S16 32 := fn_roll_static (F := F) main_v0
  let main_v2 : IVec S16 1 := cmpi .eq main_arg1 main_v1
  main_v2
-- ==== Kernel.lean ====
abbrev S1x1024x1024 : Shape := ⟨3, ![1, 1024, 1024]⟩
abbrev S16 : Shape := ⟨1, ![16]⟩
abbrev S_ : Shape := ⟨0, ![]⟩
abbrev S1 : Shape := ⟨1, ![1]⟩
abbrev S2 : Shape := ⟨1, ![2]⟩

abbrev nBuf : Space → Nat
  | .hbm => 26
  | .vmem => 2
  | .smem => 1
  | _ => 0

abbrev bufTy : (tb : Table) → Fin (tcTables nBuf tb) → BufTy
  | .hbm, ⟨0, _⟩ => ⟨S1x1024x1024, .bf16⟩
  | .hbm, ⟨1, _⟩ => ⟨S16, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S_, .i1⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S2, .i32⟩
  | .hbm, ⟨25, _⟩ => ⟨S1x1024x1024, .bf16⟩
  | .local _ .vmem, ⟨0, _⟩ => ⟨S1x1024x1024, .bf16⟩
  | .local _ .vmem, ⟨1, _⟩ => ⟨S1x1024x1024, .bf16⟩
  | .local _ .smem, ⟨0, _⟩ => ⟨S2, .i32⟩
  | _, _ => ⟨S1x1024x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_c_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_c : Ref sig .tc := ⟨.hbm, 18, rfl⟩
abbrev main_call1_c_0 : Ref sig .tc := ⟨.hbm, 19, rfl⟩
abbrev main_call1_v1_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_chk1 (v1 : BitVec 32) : Prop :=
  ((k0_dev1 v1) < nD)
theorem k0_dev1_lt : ∀ (v1 : BitVec 32) (k0_hw1 : k0_chk1 v1), (k0_dev1 v1) < nD := fun v1 k0_hw1 => k0_hw1

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_chk2 (v0 : BitVec 32) : Prop :=
  ((k0_dev2 v0) < nD)
theorem k0_dev2_lt : ∀ (v0 : BitVec 32) (k0_hw2 : k0_chk2 v0), (k0_dev2 v0) < nD := fun v0 k0_hw2 => k0_hw2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x1024x1024 : Shape := ⟨3, ![16, 1024, 1024]⟩
abbrev S16 : Shape := ⟨1, ![16]⟩
abbrev S_ : Shape := ⟨0, ![]⟩
abbrev S16x1 : Shape := ⟨2, ![16, 1]⟩

abbrev nBuf : Space → Nat
  | .hbm => 16
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x1024x1024, .bf16⟩
  | .hbm, ⟨14, _⟩ => ⟨S16x1024x1024, .f32⟩
  | .hbm, ⟨15, _⟩ => ⟨S16x1024x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
  The signals and transfers of the permutation kernel, as a schedule.

  Device `c` sends its block of `x` to device `σ c` and so receives the block of device `σ.symm c`, for a permutation `σ` of
  the sixteen devices that is a VARIABLE of this file. Three semaphores per device take part:

    0  the barrier semaphore of `c`    one unit, from device `σ c`, which thereby lends `c` its output staging buffer
    1  the send semaphore of `c`       the transfer's credit, from `c`'s own transfer, which returns the block it read
    2  the receive semaphore of `c`    the same credit, from device `σ.symm c`'s transfer: the output staging buffer of `c`,
                                       which now holds that device's block
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.Permute

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: one copy of the round counters for the pipeline's own transfers, one for the kernel's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Buffers and semaphores -/

/-- A block of `x`: what one device holds of it, what its input staging buffer and its output staging buffer hold. -/
abbrev Block (F : FTy → Type) : Type := S1x1024x1024.Idx → Elt F .bf16

/-- The staging buffers of the two words, of the block read, of the block received. -/
abbrev wM : Memref sig .tc .smem S2 .i32 := Memref.whole cc0_stg0_0
abbrev xM : Memref sig .tc .vmem S1x1024x1024 .bf16 := Memref.whole cc0_stg1_0
abbrev oM : Memref sig .tc .vmem S1x1024x1024 .bf16 := Memref.whole cc0_stg2_0

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three semaphores of a device that take part. -/
abbrev part : Fin 3 → SemLoc sig := fun | 0 => .reg barS | 1 => .dma sendS | 2 => .dma recvS
/-- Semaphore `k` of device `c`. -/
abbrev cell (c : Dev nD) (k : Fin 3) : GSem nD τ sig := ((c : Thread nD τ), part k)

theorem part_injective : Function.Injective part := by decide
theorem part_ne {k l : Fin 3} (h : k ≠ l) : part k ≠ part l := fun e => h (part_injective e)

/-- Which of the three a semaphore is, if any. -/
def role (s : SemLoc sig) : Option (Fin 3) :=
  if s = part 0 then some 0 else if s = part 1 then some 1 else if s = part 2 then some 2 else none
theorem role_part (k : Fin 3) : role (part k) = some k := by revert k; decide

/-- The credit of one block's transfer. -/
abbrev N : ℕ := (oM : Memref sig .tc .vmem S1x1024x1024 .bf16).view.dmaCredit
theorem N_pos : 0 < N := View.dmaCredit_pos _ (by decide)

/-- The units semaphore `k` is waited for. -/
def units (k : Fin 3) : ℕ := if k = 0 then 1 else N
theorem units_pos (k : Fin 3) : 0 < units k := by
  unfold units; split
  · exact Nat.one_pos
  · exact N_pos

/-! ## Contents -/

/-- Device `c`'s input staging buffer holds `f`. -/
def xPts (c : Dev nD) (f : Block F) : sProp 𝕄 :=
  (xM : Memref sig .tc .vmem S1x1024x1024 .bf16).view.loc (c : Thread nD τ) ↦[(xM : Memref sig .tc .vmem S1x1024x1024 .bf16).view.set]{fullShare} f
/-- Device `c`'s output staging buffer holds `f`. -/
def oPts (c : Dev nD) (f : Block F) : sProp 𝕄 :=
  (oM : Memref sig .tc .vmem S1x1024x1024 .bf16).view.loc (c : Thread nD τ) ↦[(oM : Memref sig .tc .vmem S1x1024x1024 .bf16).view.set]{fullShare} f

instance xPts_storable (c : Dev nD) (f : Block F) : BI.Storable (upEmb : UEmb _ 𝕄) (xPts (F := F) c f) := by unfold xPts; infer_instance
instance oPts_storable (c : Dev nD) (f : Block F) : BI.Storable (upEmb : UEmb _ 𝕄) (oPts (F := F) c f) := by unfold oPts; infer_instance

theorem xPts_eq (c : Dev nD) (f : Block F) : xPts c f = (((c : Thread nD τ).loc cc0_stg1_0) ↦{fullShare} f : sProp 𝕄) := by
  unfold xPts; rw [show (xM : Memref sig .tc .vmem S1x1024x1024 .bf16).view.set = Finset.univ from View.set_whole _]
theorem oPts_eq (c : Dev nD) (f : Block F) : oPts c f = (((c : Thread nD τ).loc cc0_stg2_0) ↦{fullShare} f : sProp 𝕄) := by
  unfold oPts; rw [show (oM : Memref sig .tc .vmem S1x1024x1024 .bf16).view.set = Finset.univ from View.set_whole _]

/-- A whole block written over a whole buffer is the block. -/
theorem landed_eq (d f : Block F) :
    (oM : Memref sig .tc .vmem S1x1024x1024 .bf16).view.write (Elt F) d ((xM : Memref sig .tc .vmem S1x1024x1024 .bf16).view.read (Elt F) f) Finset.univ = f := by
  show (View.whole cc0_stg2_0).write (Elt F) d ((View.whole cc0_stg1_0).read (Elt F) f) Finset.univ = f
  rw [View.read_whole]
  exact View.write_whole_univ _ _ _

/-! ## The schedule -/

variable (X : Dev nD → Block F) (σ : Equiv.Perm (Dev nD))

/-- What the unit or the credit paid to semaphore `k` of device `c` carries. -/
def pay (c : Dev nD) : Fin 3 → sProp 𝕄 := fun
  | 0 => iprop((∃ f, oPts (F := F) (σ c) f) ∗ reached ER (cell (σ c) 2) 0)
  | 1 => xPts c (X c)
  | 2 => oPts c (X (σ.symm c))

instance pay_storable (c : Dev nD) (k : Fin 3) : BI.Storable (upEmb : UEmb _ 𝕄) (pay X σ c k) := by
  fin_cases k
  · show BI.Storable upEmb iprop((∃ f, oPts (F := F) (σ c) f) ∗ reached ER (cell (σ c) 2) 0); infer_instance
  · show BI.Storable upEmb (xPts c (X c)); infer_instance
  · show BI.Storable upEmb (oPts c (X (σ.symm c))); infer_instance

/-- One round: each of the three semaphores of each device is paid once, in full, by one payer. -/
def sched : Rounds.Schedule (GSem nD τ sig) Unit 𝕄 where
  duties g r := if r = 0 ∧ g.1.2 = .tc ∧ (role g.2).isSome then {()} else ∅
  unitless _ := False
  amount g _ _ := match role g.2 with
    | some k => units k
    | none => 1
  payload g _ _ := match role g.2 with
    | some k => pay X σ g.1.1 k
    | none => iprop(emp)
  amount_pos g _ _ _ := by
    cases role g.2 with
    | none => exact Nat.one_pos
    | some k => exact units_pos k

instance sched_payload_storable (g : GSem nD τ sig) (r : ℕ) (d : Unit) : BI.Storable (upEmb : UEmb _ 𝕄) ((sched X σ).payload g r d) := by
  show BI.Storable upEmb (match role g.2 with | some k => pay X σ g.1.1 k | none => iprop(emp))
  cases role g.2 <;> infer_instance

section Facts

variable (c : Dev nD) (k : Fin 3)

theorem duties_cell : (sched X σ).duties (cell c k) 0 = {()} := by
  dsimp only [sched]; exact if_pos ⟨rfl, rfl, by rw [role_part]; rfl⟩
theorem mem_duties : () ∈ (sched X σ).duties (cell c k) 0 := by rw [duties_cell]; exact Finset.mem_singleton_self _
/-- There is no second round. -/
theorem duties_later (g : GSem nD τ sig) : ∀ r, 1 ≤ r → (sched X σ).duties g r = ∅ :=
  fun r hr => by dsimp only [sched]; exact if_neg fun h => by omega
theorem amount_cell (u : Unit) : (sched X σ).amount (cell c k) 0 u = units k := by
  show (match role (part k) with | some k => units k | none => 1) = units k; rw [role_part]
theorem payload_cell (u : Unit) : (sched X σ).payload (cell c k) 0 u = pay X σ c k := by
  show (match role (part k) with | some k => pay X σ c k | none => iprop(emp)) = pay X σ c k; rw [role_part]
theorem expect_cell : (sched X σ).expect (cell c k) 0 = units k := by
  unfold Schedule.expect Schedule.amountOf; rw [duties_cell, Finset.sum_singleton, amount_cell]
theorem rest_cell : bigSep ((sched X σ).duties (cell c k) 0 \ ∅) (fun u => (sched X σ).payload (cell c k) 0 u) = pay X σ c k := by
  rw [Finset.sdiff_empty, duties_cell, bigSep_singleton, payload_cell]

end Facts

/-- A cell whose one round is over gives its counter back, at zero. -/
theorem close (κ : ℕ) (g : GSem nD τ sig) :
    iprop(cellInv ER (sched X σ) κ g ∗ atPos ER g (0 + 1) ∅ 0) ⊢ (|={Set.univ}=> semVal g 0 : sProp 𝕄) :=
  Rounds.cell_close ER (sched X σ) (Set.mem_univ κ) id (duties_later X σ g)

/-! ## What each device owes, and the order of waits -/

/-- What device `c` is to pay others: the credit of its transfer to `σ c`, the unit to the barrier of `σ.symm c`. -/
def due (c : Dev nD) : CellTallies nD τ sig Unit := tallyAt (cell (σ c) 2) () N + tallyAt (cell (σ.symm c) 0) () 1

def L (g : GSem nD τ sig) : Finset Unit := if g.1.2 = .tc then {()} else ∅
/-- The barrier is waited for before the receive semaphore; the others are paid by the waiting device itself. -/
def lv (g : GSem nD τ sig) (_ : Unit) : ℕ := if g.2 = part 0 then 1 else if g.2 = part 2 then 2 else 0

theorem L_of_ne (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _
theorem lv_bar (c : Dev nD) (u : Unit) : lv (cell c 0) u = 1 := if_pos rfl
theorem lv_recv (c : Dev nD) (u : Unit) : lv (cell c 2) u = 2 := by
  show (if part 2 = part 0 then 1 else if part 2 = part 2 then 2 else 0) = 2
  rw [if_neg (part_ne (by decide)), if_pos rfl]

/-- A tally at one cell is positive only there. -/
theorem pos_at {g h : GSem nD τ sig} {u v : Unit} {n : ℕ} (p : 0 < tallyAt h v n g u) : g = h := by
  rw [tallyAt_apply] at p
  by_contra hn; rw [if_neg (fun e => hn e.1)] at p; exact Nat.lt_irrefl 0 p

theorem due_pos {c : Dev nD} {g : GSem nD τ sig} {u : Unit} (h : 0 < due σ c g u) : g = cell (σ c) 2 ∨ g = cell (σ.symm c) 0 := by
  unfold due at h
  rw [Pi.add_apply, Finsupp.add_apply] at h
  rcases Nat.add_pos_iff_pos_or_pos.mp h with h | h
  · exact .inl (pos_at h)
  · exact .inr (pos_at h)

/-- Everything owed stands at a positive level. -/
theorem due_level {c : Dev nD} {g : GSem nD τ sig} {u : Unit} (h : 0 < due σ c g u) : u ∈ L g ∧ 0 < lv g u := by
  rcases due_pos σ h with rfl | rfl
  · exact ⟨mem_L _ _ _, by rw [lv_recv]; decide⟩
  · exact ⟨mem_L _ _ _, by rw [lv_bar]; decide⟩

/-- A device may wait on its barrier while it still owes its transfer's credit. -/
theorem mayWait_bar (c : Dev nD) : (levAts L lv : sProp 𝕄) ⊢ MayWait (c : Thread nD τ) (part 0) () (tallyAt (cell (σ c) 2) () N) :=
  MayOwe.of_cut (L := L) (lev := lv) 1 (fun p hp => by rw [Finset.mem_singleton.mp hp]; exact mem_L _ _ _)
    (fun g u hg => by rw [pos_at hg]; exact mem_L _ _ _)
    (fun p hp => by rw [Finset.mem_singleton.mp hp]; exact (lv_bar c ()).le)
    (fun g u hg => by rw [pos_at hg, lv_recv]; decide)

end Cert.Permute

end
-- ==== Proof.Body.lean ====
/-
  The kernel's body, run on one device: it signals, waits, transfers and waits as the schedule of Protocol.lean says, for any
  permutation `σ` that the two words in scalar memory name.
-/
module

public import proofs.«01_k».proof.Proof.Protocol

@[expose] public section

noncomputable section

namespace Cert.Permute

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The two words -/

/-- Position `k` of the array of two words. -/
def at2 (k : Fin 2) : S2.Idx := fun a => Fin.cast (by fin_cases a; rfl) k

/-- The words a device reads name, in order, the device it sends to and the device it receives from. -/
def Names (σ : Equiv.Perm (Dev nD)) (c : Dev nD) (w : S2.Idx → BitVec 32) : Prop :=
  w (at2 0) = BitVec.ofNat 32 (σ c).val ∧ w (at2 1) = BitVec.ofNat 32 (σ.symm c).val

abbrev rect0 : Rect S2 := Rect.unit (s := S2) ![0] S1.size inb_S2_S1_0
abbrev rect1 : Rect S2 := Rect.unit (s := S2) ![1] S1.size inb_S2_S1_1

/-- What the body's first load reads. -/
theorem read0 (w : S2.Idx → Elt F .i32) :
    ((wM.access rect0 : View sig .tc .smem S1 .i32).read (Elt F) w) (Shape.Idx.first (s := S1) (numel1_S1.symm ▸ Nat.one_pos)) = w (at2 0) := by
  show w _ = w _
  congr 1; funext a; fin_cases a; rfl
/-- What its second load reads. -/
theorem read1 (w : S2.Idx → Elt F .i32) :
    ((wM.access rect1 : View sig .tc .smem S1 .i32).read (Elt F) w) (Shape.Idx.first (s := S1) (numel1_S1.symm ▸ Nat.one_pos)) = w (at2 1) := by
  show w _ = w _
  congr 1; funext a; fin_cases a; rfl

/-- The device a word addresses, as the body computes it: the word's value. -/
theorem addr (d : Dev nD) : (Scalar.addi 0#32 (Scalar.muli (BitVec.ofNat 32 d.val) 1#32)).toNat = d.val := by
  revert d; decide
theorem dev2_eq {w : BitVec 32} {d : Dev nD} (h : w = BitVec.ofNat 32 d.val) : k0_dev2 w = d.val := by subst h; exact addr d
theorem dev1_eq {w : BitVec 32} {d : Dev nD} (h : w = BitVec.ofNat 32 d.val) : k0_dev1 w = d.val := by subst h; exact addr d

/-! ## What the device holds -/

variable (X : Dev nD → Block F) (σ : Equiv.Perm (Dev nD)) (K : GSem nD τ sig → ℕ) (c : Dev nD)

/-- The invariants device `c` opens, at the names `K`: its own three, the barrier's of the device it signals, the receive
    semaphore's of the device it sends to. -/
def invs : sProp 𝕄 :=
  iprop((cellInv ER (sched X σ) (K (cell c 0)) (cell c 0) ∗ cellInv ER (sched X σ) (K (cell c 1)) (cell c 1)
      ∗ cellInv ER (sched X σ) (K (cell c 2)) (cell c 2))
    ∗ cellInv ER (sched X σ) (K (cell (σ.symm c) 0)) (cell (σ.symm c) 0) ∗ cellInv ER (sched X σ) (K (cell (σ c) 2)) (cell (σ c) 2))

instance invs_persistent : BI.Persistent (invs X σ K c) := by unfold invs; infer_instance

/-- What it pays with: three duties. -/
def dues : sProp 𝕄 :=
  iprop(dutyTok ER (cell (σ.symm c) 0) 0 () ∗ dutyTok ER (cell (σ c) 2) 0 () ∗ dutyTok ER (cell c 1) 0 ())

/-- What it waits with: two credits; the transfer gives the third. -/
def creds : sProp 𝕄 := iprop(cred (tallyAt (cell c 0) () 1) ∗ cred (tallyAt (cell c 2) () N))

/-- The three semaphores in use, at round 0. -/
def opened : sProp 𝕄 :=
  iprop(invs X σ K c ∗ (atPos ER (cell c 0) 0 ∅ 0 ∗ atPos ER (cell c 1) 0 ∅ 0 ∗ atPos ER (cell c 2) 0 ∅ 0)
    ∗ (reached ER (cell (σ.symm c) 0) 0 ∗ reached ER (cell c 1) 0 ∗ reached ER (cell c 2) 0) ∗ dues (F := F) σ c)

def bodyPre (w : S2.Idx → Elt F .i32) (W : Waits sig Unit) : sProp 𝕄 :=
  iprop(opened X σ K c ∗ creds (F := F) c ∗ levAts L lv
    ∗ ((c : Thread nD τ).loc cc0_stg0_0 ↦{fullShare} w) ∗ xPts c (X c) ∗ (∃ f, oPts (F := F) c f) ∗ owes (c : Thread nD τ) (due σ c) W)

def bodyPost (w : S2.Idx → Elt F .i32) : sProp 𝕄 :=
  iprop((semVal (cell c 0) 0 ∗ semVal (cell c 1) 0 ∗ semVal (cell c 2) 0)
    ∗ ((c : Thread nD τ).loc cc0_stg0_0 ↦{fullShare} w) ∗ xPts c (X c) ∗ oPts c (X (σ.symm c))
    ∗ ∃ W, owes (c : Thread nD τ) (0 : CellTallies nD τ sig Unit) W)

/-! ## The signal and the transfer, addressed by a word -/

/-- The signal to the device `n` that the second word names: with the unit goes the output staging buffer. -/
theorem wp_signal_source (n : Dev nD) (hn : n = σ.symm c) (W : Waits sig Unit)
    {α : Type} {Q : α → sProp 𝕄} {k : PUnit → Prog (TpuEff nD τ sig (Elt F) Λ₀ .tc) α} :
    iprop(cellInv ER (sched X σ) (K (cell (σ.symm c) 0)) (cell (σ.symm c) 0) ∗ owes (c : Thread nD τ) (due σ c) W
        ∗ dutyTok ER (cell (σ.symm c) 0) 0 () ∗ (∃ f, oPts (F := F) c f) ∗ reached ER (cell c 2) 0 ∗ reached ER (cell (σ.symm c) 0) 0)
      ⊢ iprop((owes (c : Thread nD τ) (tallyAt (cell (σ c) 2) () N) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1#32 : BitVec 32).toNat : Int) from rfl]
  iintro ⟨HI, HO, Ht, Hf, Hr, Hb⟩ Hk
  iapply (Rounds.wp_signal 𝒱₀ ER (sched X σ) (c : Thread nD τ) none (dst := (σ.symm c : Thread nD τ)) (sem := barS) (r := 0) (d := ())
      (κ := K (cell (σ.symm c) 0)) (mem_duties X σ (σ.symm c) 0) (amount_cell X σ (σ.symm c) 0 ()) () (tallyAt (cell (σ c) 2) () N) rfl) $$ [HI HO Ht Hf Hr Hb]
  · isplitl [HI]; · iexact HI
    isplitl [HO]; · iexact HO
    isplitl [Ht]; · iexact Ht
    isplitl [Hf Hr]
    · rw [payload_cell X σ (σ.symm c) 0]
      unfold pay
      rw [σ.apply_symm_apply]
      isplitl [Hf] <;> iassumption
    · iexact Hb
  iexact Hk

/-- The transfer to the device `n` that the first word names. -/
theorem wp_send_block (n : Dev nD) (hn : n = σ c)
    {hsc : (oM : Memref sig (Dev.tc n : Thread nD τ).2.kind .vmem S1x1024x1024 .bf16).view.ref.isScScratch = false}
    {hsrc : (xM : Memref sig .tc .vmem S1x1024x1024 .bf16).view.WordExact} {hdst : (oM : Memref sig .tc .vmem S1x1024x1024 .bf16).view.WordExact}
    {hsem : DmaTarget.Typed .vmem (.dma recvS) (.remote (Dev.tc n : Thread nD τ) (oM : Memref sig .tc .vmem S1x1024x1024 .bf16) (.dma sendS) hsc)}
    {α : Type} {Q : α → sProp 𝕄} {k : PUnit → Prog (TpuEff nD τ sig (Elt F) Λ₀ .tc) α}
    (fn : Block F) (W : Waits sig Unit) :
    iprop(cellInv ER (sched X σ) (K (cell c 1)) (cell c 1) ∗ cellInv ER (sched X σ) (K (cell (σ c) 2)) (cell (σ c) 2)
        ∗ xPts c (X c) ∗ oPts (σ c) fn
        ∗ owes (c : Thread nD τ) (tallyAt (cell (σ c) 2) () N) W
        ∗ dutyTok ER (cell c 1) 0 () ∗ reached ER (cell c 1) 0
        ∗ dutyTok ER (cell (σ c) 2) 0 () ∗ reached ER (cell (σ c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  unfold xPts oPts
  exact Rounds.wp_send_pointsTo 𝒱₀ ER (sched X σ) (c : Thread nD τ) none (κ₁ := K (cell c 1)) (κ₂ := K (cell (σ c) 2))
    (r₁ := 0) (r₂ := 0) (d₁ := ()) (d₂ := ()) (fd := fn) (mem_duties X σ c 1) (mem_duties X σ (σ c) 2)
    () () N rfl (amount_cell X σ c 1 ()) (amount_cell X σ (σ c) 2 ()) 0 (by rw [zero_add]) (W := W)
    (by rw [payload_cell X σ c 1]; exact BI.Entails.refl _)
    (by rw [payload_cell X σ (σ c) 2]; unfold pay oPts; rw [landed_eq, σ.symm_apply_apply])

/-! ## The run -/

set_option maxHeartbeats 1000000 in
/-- Where the two words name `σ c` and `σ.symm c`, the body ends with the output staging buffer at the block of `σ.symm c`,
    with everything it was lent given back, and with its three semaphores at zero. -/
theorem body_run (w : S2.Idx → Elt F .i32) (hw : Names σ c w) (W : Waits sig Unit) (Kt : PUnit → sProp 𝕄) :
    iprop(bodyPre X σ K c w W ∗ (bodyPost X σ c w -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _)
            (Memref.whole cc0_stg2_0) (Memref.isWhole_whole _) cc0_scratch0 cc0_scratch1) Kt := by
  have e2 := dev2_eq ((read0 (F := F) w).trans hw.1)
  have e1 := dev1_eq ((read1 (F := F) w).trans hw.2)
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre opened invs dues creds
  iintro ⟨⟨⟨⟨⟨#HIb, #HIs, #HIr⟩, #HIbS, #HIrD⟩, ⟨HaB, HaS, HaR⟩, ⟨#HbS, #HsC, #HrC⟩, HtB, HtR, HtS⟩, ⟨HcB, HcR⟩, #Hlev, Hw, Hx, Hf, HO⟩, Hk⟩
  -- the two words, which name devices
  iapply (wp_load_rect 𝒱₀ (c : Thread nD τ) none Set.univ (m := wM) (r := rect0) (Finset.subset_univ _)) $$ Hw; iintro Hw
  simp only [wp_assume_of _ _ _ _ (d := k0_chk2.dec _) (show k0_chk2 _ from lt_of_eq_of_lt e2 (σ c).isLt)]
  iapply (wp_load_rect 𝒱₀ (c : Thread nD τ) none Set.univ (m := wM) (r := rect1) (Finset.subset_univ _)) $$ Hw; iintro Hw
  simp only [wp_assume_of _ _ _ _ (d := k0_chk1.dec _) (show k0_chk1 _ from lt_of_eq_of_lt e1 (σ.symm c).isLt)]
  -- the signal
  iapply (wp_signal_source X σ K c _ (Fin.ext e1) W) $$ [HO HtB Hf]
  · isplitr; · iexact HIbS
    isplitl [HO]; · iexact HO
    isplitl [HtB]; · iexact HtB
    isplitl [Hf]; · iexact Hf
    isplitr; · iexact HrC
    iexact HbS
  iintro HO
  -- the wait on the barrier: the unit brings the destination's output staging buffer
  iapply (Rounds.wp_wait_rest_token 𝒱₀ ER (sched X σ) (c : Thread nD τ) none (κ := K (cell c 0))
      (wpE_semWait_eq 𝒱₀ (c : Thread nD τ) none Set.univ) (Set.mem_univ _) () (O := tallyAt (cell (σ c) 2) () N) (W := W) (R := 0) (m := 0) (T := ∅)
      ((Nat.zero_add 1).trans (expect_cell X σ c 0).symm)) $$ [HcB HO HaB]
  · isplitr; · iexact HIb
    isplitl [HcB]; · iexact HcB
    isplitl [HO]; · iexact HO
    isplitr; · iapply (mayWait_bar σ c); iexact Hlev
    iexact HaB
  iintro ⟨HO, HaB, -, Hpay⟩
  ihave Hp := (Entails.of_eq (rest_cell X σ c 0)) $$ Hpay
  unfold pay
  icases Hp with ⟨⟨%fn, Hd⟩, #HrD⟩
  -- the transfer
  iapply (wp_send_block X σ K c _ (Fin.ext e2) fn (insert (SemLoc.reg barS, ()) W)) $$ [Hx Hd HO HtS HtR]
  · isplitr; · iexact HIs
    isplitr; · iexact HIrD
    isplitl [Hx]; · iexact Hx
    isplitl [Hd]; · iexact Hd
    isplitl [HO]; · iexact HO
    isplitl [HtS]; · iexact HtS
    isplitr; · iexact HsC
    isplitl [HtR]; · iexact HtR
    iexact HrD
  iintro ⟨HcS, HO⟩
  -- the wait for the block read
  iapply (Rounds.wp_wait_rest_token 𝒱₀ ER (sched X σ) (c : Thread nD τ) none (κ := K (cell c 1))
      (wpE_waitDma2_eq (src := oM) (dst := xM) 𝒱₀ (c : Thread nD τ) none Set.univ) (Set.mem_univ _) () (O := 0) (W := insert (SemLoc.reg barS, ()) W) (R := 0) (m := 0) (T := ∅)
      ((Nat.zero_add _).trans (expect_cell X σ c 1).symm)) $$ [HcS HO HaS]
  · isplitr; · iexact HIs
    isplitl [HcS]; · iexact HcS
    isplitl [HO]; · iexact HO
    isplitr; · rw [MayWait_zero]; iempintro
    iexact HaS
  iintro ⟨HO, HaS, -, Hpay⟩
  ihave Hx := (Entails.of_eq ((rest_cell X σ c 1).trans (show pay X σ c 1 = xPts c (X c) from rfl))) $$ Hpay
  -- the wait for the block received
  iapply (Rounds.wp_wait_rest_token 𝒱₀ ER (sched X σ) (c : Thread nD τ) none (κ := K (cell c 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      ((Nat.zero_add _).trans (expect_cell X σ c 2).symm)) $$ [HcR HO HaR]
  · isplitr; · iexact HIr
    isplitl [HcR]; · iexact HcR
    isplitl [HO]; · iexact HO
    isplitr; · rw [MayWait_zero]; iempintro
    iexact HaR
  iintro ⟨HO, HaR, -, Hpay⟩
  ihave Ho := (Entails.of_eq ((rest_cell X σ c 2).trans (show pay X σ c 2 = oPts c (X (σ.symm c)) from rfl))) $$ Hpay
  -- the three cells close
  rw [wp_ret]
  imod (close X σ (K (cell c 0)) (cell c 0)) $$ [HaB] with Hb0
  · isplitr; · iexact HIb
    iexact HaB
  imod (close X σ (K (cell c 1)) (cell c 1)) $$ [HaS] with Hs0
  · isplitr; · iexact HIs
    iexact HaS
  imod (close X σ (K (cell c 2)) (cell c 2)) $$ [HaR] with Hr0
  · isplitr; · iexact HIr
    iexact HaR
  imodintro
  iapply Hk
  unfold bodyPost
  isplitl [Hb0 Hs0 Hr0]
  · isplitl [Hb0]; · iexact Hb0
    isplitl [Hs0] <;> iassumption
  isplitl [Hw]; · iexact Hw
  isplitl [Hx]; · iexact Hx
  isplitl [Ho]; · iexact Ho
  iexists _; iexact HO

end Cert.Permute

end
-- ==== Proof.Region.lean ====
/-
  The kernel call of @main as a segment of the run: entered with the staging buffers' arrays as @main's host code left them,
  left with the result array at the block received.
-/
module

public import proofs.«01_k».proof.Proof.Body

@[expose] public section

noncomputable section

namespace Cert.Permute

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (σ : Equiv.Perm (Dev nD))

/-! ## The arrays before and after the call -/

/-- The words device `c` hands its kernel. -/
def words (c : Dev nD) : S2.Idx → Elt F .i32 := V5 m c main_v11
/-- The block device `c` hands its kernel. -/
def block (c : Dev nD) : Block F := V5 m c main_arg0
/-- Device `c`'s buffers after the call: the result holds the block of `σ.symm c`. -/
def after (c : Dev nD) : Valuation τ sig (Elt F) := Function.update (V5 m c) main_v12 (block m (σ.symm c))

theorem block_eq (c : Dev nD) : block m c = m ((c : Thread nD τ).loc main_arg0) :=
  (V5_of m c main_arg0 (by decide)).trans <| (V4_of m c main_arg0 (by decide)).trans <| (V3_of m c main_arg0 (by decide)).trans <|
    (V2_of m c main_arg0 (by decide)).trans <| V1_of m c main_arg0 (by decide)

theorem after_result (c : Dev nD) : after m σ c main_v12 = block m (σ.symm c) := Function.update_self _ _ _
/-- The call changes no buffer but the result. -/
theorem after_of (c : Dev nD) (r : Ref sig .tc) (h : r ≠ main_v12) : after m σ c r = V5 m c r :=
  Function.update_of_ne (StableHlo.devRef_ne_of_ne h) _ _
theorem after_arg0 (c : Dev nD) : after m σ c main_arg0 = m ((c : Thread nD τ).loc main_arg0) :=
  (after_of m σ c main_arg0 (by decide)).trans (block_eq m c)
theorem after_arg1 (c : Dev nD) : after m σ c main_arg1 = m ((c : Thread nD τ).loc main_arg1) :=
  (after_of m σ c main_arg1 (by decide)).trans <| (V5_of m c main_arg1 (by decide)).trans <| (V4_of m c main_arg1 (by decide)).trans <|
    (V3_of m c main_arg1 (by decide)).trans <| (V2_of m c main_arg1 (by decide)).trans <| V1_of m c main_arg1 (by decide)

/-! ## The proof data -/

/-- Before the call's one point: the semaphores open, the credits, the levels. -/
def entered (c : Dev nD) : sProp 𝕄 := iprop((∃ K, opened (block m) σ K c) ∗ creds (F := F) c ∗ levAts L lv)
/-- After it: the three semaphores at zero. -/
def left (c : Dev nD) : sProp 𝕄 := iprop(semVal (cell c 0) 0 ∗ semVal (cell c 1) 0 ∗ semVal (cell c 2) 0)

def data (c : Dev nD) : Dat τ (Elt F) Unit ℕ UU ℕ cfg0 c where
  A w := V5 m c (Proc.devRef .tc (Pipeline.arrRef spec0 w))
  after w _ := match w with
    | ⟨0, _⟩ => words m c
    | ⟨1, _⟩ => block m c
    | ⟨2, _⟩ => block m (σ.symm c)
  Φ t := match t with
    | ⟨0, _⟩ => iprop(entered m σ c ∗ ∃ r, prngReg c r)
    | ⟨_ + 1, _⟩ => iprop(left (F := F) c ∗ ∃ r, prngReg c r)
  q _ := fullShare
  owed t := match t with
    | ⟨0, _⟩ => due σ c
    | ⟨_ + 1, _⟩ => 0

abbrev datas : (p : Fin 1) → (c : Dev nD) → Dat τ (Elt F) Unit ℕ UU ℕ (cfgs p) c := fun _ => data m σ

theorem share_eq (c : Dev nD) (w : Fin cfg0.W) : (data m σ c).share w = fullShare := by unfold Dat.share; split <;> rfl

/-! ## The windows are whole arrays -/

/-- The one block of each window is its whole array. -/
theorem read_words (f : S2.Idx → Elt F .i32) : (win0_0.blk (0 : Fin 1)).view.read (Elt F) f = f :=
  Memref.read_access_unit_zero (Elt F) main_v11 (funext fun a => by fin_cases a <;> decide) (fun a => by fin_cases a <;> decide) f
theorem read_block (f : Block F) : (win0_1.blk (0 : Fin 1)).view.read (Elt F) f = f :=
  Memref.read_access_unit_zero (Elt F) main_arg0 (funext fun a => by fin_cases a <;> decide) (fun a => by fin_cases a <;> decide) f
theorem read_result (f : Block F) : (win0_2.blk (0 : Fin 1)).view.read (Elt F) f = f :=
  Memref.read_access_unit_zero (Elt F) main_v12 (funext fun a => by fin_cases a <;> decide) (fun a => by fin_cases a <;> decide) f

theorem before_words (c : Dev nD) (d) : (data m σ c).before (0 : Fin 3) t0_0 d = words m c := by
  unfold Dat.before; rw [if_pos (fetch0_0 t0_0)]; exact read_words (words m c)
theorem before_block (c : Dev nD) (d) : (data m σ c).before (1 : Fin 3) t0_0 d = block m c := by
  unfold Dat.before; rw [if_pos (fetch0_1 t0_0)]; exact read_block (block m c)

/-- The arrays of the call end as `after` says. -/
theorem arrays_after (c : Dev nD) (w : Fin 3) : (data m σ c).arrAt w cfg0.N = after m σ c (Proc.devRef .tc (Pipeline.arrRef spec0 w)) := by
  match w with
  | ⟨0, _⟩ => exact ((data m σ c).arrAt_in (0 : Fin 3) rfl _).trans (after_of m σ c main_v11 (by decide)).symm
  | ⟨1, _⟩ => exact ((data m σ c).arrAt_in (1 : Fin 3) rfl _).trans (after_of m σ c main_arg0 (by decide)).symm
  | ⟨2, _⟩ =>
    refine Eq.trans ?_ (after_result m σ c).symm
    have h : (win0_2.blk (0 : Fin 1)).view.read (Elt F) ((data m σ c).arrAt (2 : Fin 3) cfg0.N) = block m (σ.symm c) := by
      rw [show cfg0.N = ((0 : Fin 1) : Fin cfg0.N).val + 1 from rfl, (data m σ c).arrAt_succ (2 : Fin 3) (0 : Fin 1),
        show (cfg0.win (2 : Fin 3)).flush (0 : Fin 1) = true from flush0_2 _, if_pos rfl]
      exact View.read_write_univ _ _
    exact (read_result _).symm.trans h

/-! ## The body's obligation -/

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- The staging buffer `b` of device `c` holds `f`. -/
abbrev holds (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def pointPre (c : Dev nD) : sProp 𝕄 :=
  iprop((entered m σ c ∗ ∃ r, prngReg c r) ∗ (data m σ c).owesAt () t0_0.castSucc
    ∗ (∃ d, holds c cc0_stg0_0 ((data m σ c).before (0 : Fin 3) t0_0 d))
    ∗ (∃ d, holds c cc0_stg1_0 ((data m σ c).before (1 : Fin 3) t0_0 d))
    ∗ (∃ d, holds c cc0_stg2_0 ((data m σ c).before (2 : Fin 3) t0_0 d)))
def pointPost (c : Dev nD) : sProp 𝕄 :=
  iprop((left (F := F) c ∗ ∃ r, prngReg c r) ∗ (data m σ c).owesAt () t0_0.succ
    ∗ holds c cc0_stg0_0 (words m c) ∗ holds c cc0_stg1_0 (block m c) ∗ holds c cc0_stg2_0 (block m (σ.symm c)))

/-- The call's one point: the body's run, with the staging buffers as the pipeline hands them. -/
theorem point (hw : ∀ c, Names σ c (words m c)) (c : Dev nD) :
    pointPre m σ c ⊢ wp frame (wpE (defs₀ (F := F)) 𝒱₀ c none) Set.univ
      (cc0_body (F := F) (Memref.whole cc0_stg0_0) (Memref.isWhole_whole _) (Memref.whole cc0_stg1_0) (Memref.isWhole_whole _)
        (Memref.whole cc0_stg2_0) (Memref.isWhole_whole _) cc0_scratch0 cc0_scratch1) (fun _ => pointPost m σ c) := by
  unfold pointPre entered Dat.owesAt Pipeline.owesWithin
  rw [show (data m σ c).owed t0_0.castSucc = due σ c from rfl]
  iintro ⟨⟨⟨⟨%K, Ho⟩, Hc, Hl⟩, Hp⟩, ⟨%W, %hW, HO⟩, ⟨%d0, %g0, %h0, H0⟩, ⟨%d1, %g1, %h1, H1⟩, ⟨%d2, %g2, %h2, H2⟩⟩
  obtain rfl : g0 = words m c := h0.trans (before_words m σ c d0)
  obtain rfl : g1 = block m c := h1.trans (before_block m σ c d1)
  iapply (body_run (block m) σ K c (words m c) (hw c) W (fun _ => pointPost m σ c))
  isplitl [Ho Hc Hl H0 H1 H2 HO]
  · unfold bodyPre
    isplitl [Ho]; · iexact Ho
    isplitl [Hc]; · iexact Hc
    isplitl [Hl]; · iexact Hl
    isplitl [H0]; · iexact H0
    isplitl [H1]; · rw [xPts_eq]; iexact H1
    isplitl [H2]; · iexists g2; rw [oPts_eq]; iexact H2
    iexact HO
  unfold bodyPost
  rw [xPts_eq, oPts_eq]
  iintro ⟨Hs, H0, H1, H2, ⟨%W', HO⟩⟩
  unfold pointPost left Dat.owesAt Pipeline.owesWithin
  rw [show (data m σ c).owed t0_0.succ = 0 from rfl]
  isplitl [Hs Hp]; · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
theorem body_obligation (hw : ∀ c, Names σ c (words m c)) (c : Dev nD) :
    BodyObligation (data m σ c) (defs₀ (F := F)) 𝒱₀ () Set.univ := fun t => by
  obtain rfl : t = t0_0 := fin_N0 t
  rw [bigSep_W0, bigSep_W0]
  simp only [owns_whole]
  exact point m σ hw c

/-! ## The segment -/

/-- The call's own two semaphores, those of its transfer. -/
abbrev own : Fin 2 → SemLoc sig := fun k => part k.succ

theorem ownSems_eq (c : Dev nD) : (Pipeline.ownSems0 own c : sProp 𝕄) = iprop(semVal (cell c 1) 0 ∗ semVal (cell c 2) 0) :=
  BI.bigSep_fin_two (fun k : Fin 2 => (semVal ((c : Thread nD τ), own k) 0 : sProp 𝕄))

/-- What device `c` carries from the launch to the call: its position at its barrier, the right to open the two semaphores of
    its transfer, its duties. -/
def ghost (K : GSem nD τ sig → ℕ) (c : Dev nD) : sProp 𝕄 :=
  iprop(invs (block m) σ K c ∗ (atPos ER (cell c 0) 0 ∅ 0 ∗ openTok ER (cell c 1) ∗ openTok ER (cell c 2))
    ∗ reached ER (cell (σ.symm c) 0) 0 ∗ dues (F := F) σ c)

def carried (c : Dev nD) : sProp 𝕄 := iprop((∃ K, ghost m σ K c) ∗ creds (F := F) c)

/-- The two semaphores of the transfer open when the call is entered. -/
theorem open_own (c : Dev nD) : iprop(carried m σ c ∗ Pipeline.ownSems0 own c ∗ levAts L lv) ⊢ (|={Set.univ}=> entered m σ c : sProp 𝕄) := by
  rw [ownSems_eq]
  unfold carried entered ghost opened invs
  iintro ⟨⟨⟨%K, ⟨⟨#HIb, #HIs, #HIr⟩, #HIbS, #HIrD⟩, ⟨HaB, HoS, HoR⟩, #HbS, Hd⟩, Hc⟩, ⟨Hs0, Hr0⟩, #Hlev⟩
  imod (Rounds.cell_open ER (sched (block m) σ) (g := cell c 1) (Set.mem_univ (K (cell c 1)))) $$ [HoS Hs0] with ⟨HaS, #HsC⟩
  · isplitr; · iexact HIs
    isplitl [HoS] <;> iassumption
  imod (Rounds.cell_open ER (sched (block m) σ) (g := cell c 2) (Set.mem_univ (K (cell c 2)))) $$ [HoR Hr0] with ⟨HaR, #HrC⟩
  · isplitr; · iexact HIr
    isplitl [HoR] <;> iassumption
  imodintro
  isplitl [HaB HaS HaR Hd]
  · iexists K
    isplitr
    · isplitr
      · isplitr; · iexact HIb
        isplitr; · iexact HIs
        iexact HIr
      isplitr; · iexact HIbS
      iexact HIrD
    isplitl [HaB HaS HaR]
    · isplitl [HaB]; · iexact HaB
      isplitl [HaS] <;> iassumption
    isplitr
    · isplitr; · iexact HbS
      isplitr; · iexact HsC
      iexact HrC
    iexact Hd
  isplitl [Hc]; · iexact Hc
  iexact Hlev

theorem held_none (c : Dev nD) (V : Valuation τ sig (Elt F)) : (StableHlo.held (c : Thread nD τ) ∅ V : sProp 𝕄) = BI.emp := by
  unfold StableHlo.held; exact BI.bigSep_empty

/-- The buffers that are no array of the call. -/
abbrev others : Finset (DevRef τ sig) := Pipeline.ucRefs τ sig \ Pipeline.arrRefs (τ := τ) spec0

theorem after_others (c : Dev nD) : ∀ b ∈ others \ ∅, after m σ c b = V5 m c b := fun b hb => by
  refine Function.update_of_ne (fun h => ?_) _ _
  subst h
  exact (Finset.mem_sdiff.mp (Finset.mem_sdiff.mp hb).1).2 (by decide)

theorem enter (c : Dev nD) : iprop(Pipeline.scopedRest (Pipeline.pin (pcfgs (F := F)) adm 0).spec c ∗ (∃ r, prngReg c r)
      ∗ StableHlo.held (c.tc : Thread nD τ) ∅ (V5 m c) ∗ entered m σ c) ⊢ (datas m σ 0 c).Φ 0 := by
  rw [show (datas m σ 0 c).Φ 0 = iprop(entered m σ c ∗ ∃ r, prngReg c r) from rfl]
  iintro ⟨-, Hp, -, He⟩
  isplitl [He] <;> iassumption

theorem leave (c : Dev nD) : (datas m σ 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after m σ c) ∗ Pipeline.ownSems0 own c ∗ semVal (cell c 0) 0) := by
  rw [show (datas m σ 0 c).Φ (Fin.last _) = iprop(left (F := F) c ∗ ∃ r, prngReg c r) from rfl, ownSems_eq, held_none,
    show (Pipeline.scopedRest (Pipeline.pin (pcfgs (F := F)) adm 0).spec c : sProp 𝕄) = BI.emp from scopedRest0_eq c]
  unfold left
  iintro ⟨⟨Hb, Hs, Hr⟩, Hp⟩
  isplitr; · iempintro
  isplitl [Hp]; · iexact Hp
  isplitr; · iempintro
  isplitl [Hs Hr]; · isplitl [Hs] <;> iassumption
  iexact Hb

theorem due_cut (c : Dev nD) (t : Fin (cfg0.N + 1)) (g : GSem nD τ sig) (u : Unit) (h : 0 < (data m σ c).owed t g u) :
    u ∈ L g ∧ (0 : ℕ) < lv g u := by
  match t, h with
  | ⟨0, _⟩, h => exact due_level σ h
  | ⟨_ + 1, _⟩, h => exact absurd h (Nat.lt_irrefl 0)

theorem lv_stage (c : Dev nD) (w : Fin 3) (s : Fin (win0 w).nbuf) : lv ((c : Thread nD τ), .dma ((win0 w).sem s)) () ≤ 0 := by
  have h : ∀ (w : Fin 3) (s : Fin (win0 w).nbuf), (SemLoc.dma ((win0 w).sem s) : SemLoc sig) ≠ part 0 ∧ (SemLoc.dma ((win0 w).sem s) : SemLoc sig) ≠ part 2 := by decide
  show (if (SemLoc.dma ((win0 w).sem s) : SemLoc sig) = part 0 then 1 else if (SemLoc.dma ((win0 w).sem s) : SemLoc sig) = part 2 then 2 else 0) ≤ 0
  rw [if_neg (h w s).1, if_neg (h w s).2]

set_option backward.isDefEq.respectTransparency.types false in
def region (hw : ∀ c, Names σ c (words m c)) : Pipeline.RegionSeg (pcfgs (F := F)) adm (datas m σ) () defs₀ 𝒱₀ L lv 0 :=
  Pipeline.RegionSeg.ofTalk (pcfgs (F := F)) adm (datas m σ) () defs₀ 𝒱₀ L lv 0 own (by decide : Pipeline.OwnSemFacts spec0 own)
    ∅ (others) (Finset.empty_subset _) launch0.toP rfl (fun c => (body_obligation m σ hw c).loose)
    (fun _ => 0) (due σ) (fun _ => (zero_add _).symm) (fun _ => rfl) (fun _ => rfl) (share_eq m σ)
    (V5 m) (after m σ) (after_others m σ)
    (carried m σ) (fun c => semVal (cell c 0) 0) (entered m σ) (fun c => semVal (cell c 0) 0) (open_own m σ) (enter m σ) (leave m σ)
    (fun c => by iintro H; imodintro; iexact H)
    (fun _ => 0) ⟨fun c w s => mem_L c _ (), fun c w s => lv_stage c w s, due_cut m σ⟩
    (fun _ => iprop(emp)) (fun _ _ => rfl) (arrays_after m σ)

/-- What rides beside the buffers up to the call. -/
def riding (c : Dev nD) : sProp 𝕄 := iprop((∃ r, prngReg c r) ∗ carried m σ c ∗ ∃ W, owes (c : Thread nD τ) (due σ c) W)

theorem arrs_sub : Pipeline.arrRefs (τ := τ) spec0 ⊆ Pipeline.ucRefs τ sig := by decide

theorem region_pre (hw : ∀ c, Names σ c (words m c)) (c : Dev nD) :
    iprop(StableHlo.held (c : Thread nD τ) (Pipeline.ucRefs τ sig) (V5 m c) ∗ riding m σ c) ⊢ (region m σ hw).pre c := by
  show _ ⊢ iprop(StableHlo.held (c.tc : Thread nD τ) (Pipeline.arrRefs (τ := τ) spec0) (V5 m c) ∗ (∃ r, prngReg c r)
    ∗ (StableHlo.held (c.tc : Thread nD τ) (others) (V5 m c) ∗ emp) ∗ carried m σ c ∗ ∃ Wd, owes (c : Thread nD τ) (0 + due σ c) Wd)
  rw [zero_add, StableHlo.held_sub_split (c.tc : Thread nD τ) (arrs_sub) (V5 m c)]
  unfold riding
  iintro ⟨⟨Ha, Ho⟩, Hp, Hc, HO⟩
  isplitl [Ha]; · iexact Ha
  isplitl [Hp]; · iexact Hp
  isplitl [Ho]
  · isplitl [Ho]; · iexact Ho
    iempintro
  isplitl [Hc] <;> iassumption

theorem region_post (hw : ∀ c, Names σ c (words m c)) (c : Dev nD) : (region m σ hw).post c
    ⊢ iprop((StableHlo.held (c : Thread nD τ) (Pipeline.ucRefs τ sig) (after m σ c) ∗ semVal (cell c 0) 0)
      ∗ ∃ W, owes (c : Thread nD τ) (0 : CellTallies nD τ sig Unit) W) := by
  show iprop(StableHlo.held (c.tc : Thread nD τ) (Pipeline.arrRefs (τ := τ) spec0) (after m σ c) ∗ (∃ r, prngReg c r)
    ∗ (StableHlo.held (c.tc : Thread nD τ) (others) (after m σ c) ∗ emp) ∗ semVal (cell c 0) 0
    ∗ ∃ Wd, owes (c : Thread nD τ) (0 : CellTallies nD τ sig Unit) Wd) ⊢ _
  rw [StableHlo.held_sub_split (c.tc : Thread nD τ) (arrs_sub) (after m σ c)]
  iintro ⟨Ha, -, ⟨Ho, -⟩, Hb, HO⟩
  isplitr [HO]
  · isplitr [Hb]
    · isplitl [Ha] <;> iassumption
    iexact Hb
  iexact HO

end Cert.Permute

end
-- ==== Proof.Launch.lean ====
/-
  The launch: the ghost state of the schedule is made and dealt to the devices, the duties of the barrier and receive
  semaphores to the devices that pay them, and @main runs from any memory to its end.
-/
module

public import proofs.«01_k».proof.Proof.Region

@[expose] public section

noncomputable section

namespace Cert.Permute

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

/-! ## The cells and the duties made at launch -/

theorem cell_inj {a c : Dev nD} {k l : Fin 3} (h : cell a k = cell c l) : a = c ∧ k = l :=
  ⟨congrArg (fun g : GSem nD τ sig => g.1.1) h, part_injective (congrArg Prod.snd h)⟩

def barEmb : Dev nD ↪ GSem nD τ sig := ⟨fun c => cell c 0, fun _ _ h => (cell_inj h).1⟩
def ownEmb : Dev nD × Fin 2 ↪ GSem nD τ sig :=
  ⟨fun p => cell p.1 p.2.succ, fun _ _ h => Prod.ext (cell_inj h).1 (Fin.succ_injective _ (cell_inj h).2)⟩
def dutyEmb : Dev nD × Fin 3 ↪ GSem nD τ sig × ℕ × Unit :=
  ⟨fun p => (cell p.1 p.2, 0, ()), fun _ _ h => Prod.ext (cell_inj (congrArg Prod.fst h)).1 (cell_inj (congrArg Prod.fst h)).2⟩

/-- The barriers' cells, the transfers' cells, every duty. -/
abbrev barCells : Finset (GSem nD τ sig) := Finset.univ.map barEmb
abbrev ownCells : Finset (GSem nD τ sig) := Finset.univ.map ownEmb
abbrev allDuties : Finset (GSem nD τ sig × ℕ × Unit) := Finset.univ.map dutyEmb

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact Fin.succ_ne_zero _ (cell_inj h).2

theorem cell_mem (c : Dev nD) (k : Fin 3) : cell c k ∈ (barCells ∪ ownCells : Finset (GSem nD τ sig)) := by
  cases k using Fin.cases with
  | zero => exact Finset.mem_union_left _ (Finset.mem_map_of_mem barEmb (Finset.mem_univ c))
  | succ k => exact Finset.mem_union_right _ (Finset.mem_map_of_mem ownEmb (Finset.mem_univ (c, k)))

/-- The launch's resources: the pipeline's for its own transfers, and the schedule's. -/
def u₀ : UU :=
  (initOf (Pipeline.cells cfgs cellOf_inj) (Pipeline.launchToks cfgs cellOf_inj), launchOf barCells ownCells allDuties)

/-- The schedule's, whole, on device 0 until the devices are dealt their parts. -/
def parked (c : Dev nD) : sProp 𝕄 := if c = 0 then BI.own (ER (launchOf barCells ownCells allDuties)) else iprop(emp)
theorem bigSep_parked : bigSep Finset.univ (parked (F := F)) = BI.own (ER (launchOf barCells ownCells allDuties)) := by
  rw [bigSep_univ_at _ (0 : Dev nD), bigSep_congr (s := Finset.univ.erase (0 : Dev nD)) (Ψ := fun _ => (BI.emp : sProp 𝕄))
    (fun c hc => by unfold parked; rw [if_neg (Finset.ne_of_mem_erase hc)]; rfl), BI.bigSep_emp_const]
  unfold parked; rw [if_pos rfl]
  exact BI.equiv_iff.mp sep_emp

/-- Two families conjoined device by device are the two families conjoined. -/
theorem zip {Φ Ψ : Dev nD → sProp 𝕄} : iprop(bigSep Finset.univ Φ ∗ bigSep Finset.univ Ψ) ⊢ bigSep Finset.univ fun c => iprop(Φ c ∗ Ψ c) := by
  rw [bigSep_sep']
theorem unzip {Φ Ψ : Dev nD → sProp 𝕄} : (bigSep Finset.univ fun c => iprop(Φ c ∗ Ψ c)) ⊢ iprop(bigSep Finset.univ Φ ∗ bigSep Finset.univ Ψ) := by
  rw [bigSep_sep']

/-! ## What each device is dealt -/

/-- What every device may consult. -/
def records (κ : GSem nD τ sig → ℕ) : sProp 𝕄 :=
  iprop((bigSep (barCells ∪ ownCells) fun g => cellInv ER (sched (block m) σ) (κ g) g) ∗ bigSep barCells fun g => reached ER g 0)

instance records_persistent (κ : GSem nD τ sig → ℕ) : BI.Persistent (records m σ κ) := by unfold records; infer_instance

theorem inv_of (κ : GSem nD τ sig → ℕ) (c : Dev nD) (k : Fin 3) :
    (bigSep (barCells ∪ ownCells) fun g => (cellInv ER (sched (block m) σ) (κ g) g : sProp 𝕄)) ⊢ cellInv ER (sched (block m) σ) (κ (cell c k)) (cell c k) :=
  bigSep_elim (cell_mem c k)

theorem reached_of (c : Dev nD) : (bigSep barCells fun g => (reached ER g 0 : sProp 𝕄)) ⊢ reached ER (cell c 0) 0 :=
  bigSep_elim (Finset.mem_map_of_mem barEmb (Finset.mem_univ c))

/-- What one device alone has: its positions, its rights to open, the duties it pays. -/
def dealt (c : Dev nD) : sProp 𝕄 :=
  iprop((atPos ER (cell c 0) 0 ∅ 0 ∗ openTok ER (cell c 1) ∗ openTok ER (cell c 2)) ∗ dues (F := F) σ c)

theorem ghost_of (κ : GSem nD τ sig → ℕ) (c : Dev nD) : iprop(records m σ κ ∗ dealt σ c) ⊢ iprop(∃ K, ghost m σ K c) := by
  unfold records dealt ghost invs
  iintro ⟨⟨#HI, #HR⟩, Hp, Hd⟩
  iexists κ
  isplitr
  · isplitr
    · isplitr; · iapply (inv_of m σ κ c 0); iexact HI
      isplitr; · iapply (inv_of m σ κ c 1); iexact HI
      iapply (inv_of m σ κ c 2); iexact HI
    isplitr; · iapply (inv_of m σ κ (σ.symm c) 0); iexact HI
    iapply (inv_of m σ κ (σ c) 2); iexact HI
  isplitl [Hp]; · iexact Hp
  isplitr; · iapply (reached_of (F := F) (σ.symm c)); iexact HR
  iexact Hd

/-- Every duty goes to the device that pays it. -/
theorem duties_dealt : (bigSep allDuties fun x => (dutyTok ER x.1 x.2.1 x.2.2 : sProp 𝕄)) ⊢ bigSep Finset.univ (dues (F := F) σ) := by
  have three (Φ : Fin 3 → sProp 𝕄) : bigSep Finset.univ Φ = iprop(Φ 0 ∗ Φ 1 ∗ Φ 2) := bigSep_W0 Φ
  rw [bigSep_map, bigSep_univ_prod,
    bigSep_congr (Ψ := fun c : Dev nD => iprop(dutyTok ER (cell c 0) 0 () ∗ dutyTok ER (cell c 1) 0 () ∗ dutyTok ER (cell c 2) 0 ())) fun c _ => three _,
    bigSep_sep', bigSep_sep', bigSep_univ_equiv σ.symm (fun c : Dev nD => (dutyTok ER (cell c 0) 0 () : sProp 𝕄)),
    bigSep_univ_equiv σ (fun c : Dev nD => (dutyTok ER (cell c 2) 0 () : sProp 𝕄))]
  unfold dues
  rw [bigSep_sep', bigSep_sep']
  iintro ⟨H0, H1, H2⟩
  isplitl [H0]; · iexact H0
  isplitl [H2] <;> iassumption

/-! ## The credits made at launch -/

/-- A tally at one of the cells, read at another. -/
theorem tally_cell (a c : Dev nD) (k l : Fin 3) (n : ℕ) : (tallyAt (cell a k) () n : CellTallies nD τ sig Unit) (cell c l) () = if a = c ∧ k = l then n else 0 := by
  rw [tallyAt_apply]
  by_cases h : a = c ∧ k = l
  · obtain ⟨rfl, rfl⟩ := h; rw [if_pos ⟨rfl, rfl⟩, if_pos ⟨rfl, rfl⟩]
  · rw [if_neg h, if_neg]
    exact fun e => h (cell_inj e.1.symm)

theorem due_bar (d c : Dev nD) : due σ d (cell c 0) () = if d = σ c then 1 else 0 := by
  unfold due
  rw [Pi.add_apply, Finsupp.add_apply, tally_cell, tally_cell, if_neg (fun h => absurd h.2 (by decide)), zero_add]
  exact if_congr ⟨fun h => (σ.symm_apply_eq.mp h.1), fun h => ⟨σ.symm_apply_eq.mpr h, rfl⟩⟩ rfl rfl
theorem due_recv (d c : Dev nD) : due σ d (cell c 2) () = if d = σ.symm c then N else 0 := by
  unfold due
  rw [Pi.add_apply, Finsupp.add_apply, tally_cell, tally_cell, if_neg (c := σ.symm d = c ∧ _) (fun h => absurd h.2 (by decide)), add_zero]
  exact if_congr ⟨fun h => (σ.eq_symm_apply.mpr h.1), fun h => ⟨σ.eq_symm_apply.mp h, rfl⟩⟩ rfl rfl

/-- If one device alone owes a cell, the launch credits its owner with that. -/
theorem credit_cell (c e : Dev nD) (k : Fin 3) (n : ℕ) (h : ∀ d, due σ d (cell c k) () = if d = e then n else 0) :
    tallyOn (cell c k) (launchCredit (Pipeline.owing (due σ)) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

theorem credits (c : Dev nD) : (Pipeline.launchCred (due σ) c : sProp 𝕄) ⊢ creds (F := F) c := by
  unfold Pipeline.launchCred creds
  rw [bigSep_univ_at _ (part 0), credit_cell σ c (σ c) 0 1 fun d => due_bar σ d c]
  refine sep_mono_right ?_
  rw [← credit_cell σ c (σ.symm c) 2 N fun d => due_recv σ d c]
  exact bigSep_elim (Finset.mem_erase.mpr ⟨part_ne (by decide), Finset.mem_univ _⟩)

/-! ## The first thread state -/

theorem unscopedSems_eq (c : Dev nD) : (unscopedSems0 c : sProp 𝕄) = semVal (cell c 0) 0 := by
  unfold unscopedSems0
  rw [show (Finset.univ.filter fun sm : SemLoc sig => ¬ sm.isScoped .tc) = {part 0} from by decide, BI.bigSep_singleton]

abbrev first (c : Dev nD) : sProp 𝕄 := iprop(StableHlo.held (c : Thread nD τ) (Pipeline.ucRefs τ sig) (V0 m c) ∗ riding m σ c)
abbrev last (c : Dev nD) : sProp 𝕄 := iprop(StableHlo.held (c : Thread nD τ) (Pipeline.ucRefs τ sig) (after m σ c) ∗ semVal (cell c 0) 0)

/-- What of a device's launch holdings is none of the schedule's ghost state. -/
def rest (c : Dev nD) : sProp 𝕄 :=
  iprop(StableHlo.held (c : Thread nD τ) (Pipeline.ucRefs τ sig) (V0 m c) ∗ creds (F := F) c ∗ owes (c : Thread nD τ) (due σ c) ∅ ∗ ∃ r, prngReg c r)

theorem first_of (κ : GSem nD τ sig → ℕ) (c : Dev nD) : iprop(records m σ κ ∗ (dealt σ c ∗ rest m σ c)) ⊢ first m σ c := by
  unfold rest first riding carried
  iintro ⟨#HR, Hd, Hh, Hc, HO, Hp⟩
  isplitl [Hh]; · iexact Hh
  isplitl [Hp]; · iexact Hp
  isplitl [Hd Hc]
  · isplitl [Hd]
    · iapply (ghost_of m σ κ c)
      isplitr; · iexact HR
      iexact Hd
    iexact Hc
  iexists ∅; iexact HO

theorem launch :
    iprop((bigSep Finset.univ fun c : Dev nD => iprop(unscopedBufs c (fun b => m ((c : Thread nD τ).loc b)) ∗ unscopedSems0 c
          ∗ owes (c : Thread nD τ) (due σ c) ∅ ∗ Pipeline.launchCred (due σ) c ∗ prngReg c (ρ c) ∗ parked (F := F) c)) ∗ levAts L lv)
      ⊢ (|={Set.univ}=> bigSep Finset.univ (first m σ) : sProp 𝕄) := by
  have hcore (c : Dev nD) : iprop(unscopedBufs c (fun b => m ((c : Thread nD τ).loc b)) ∗ unscopedSems0 c
        ∗ owes (c : Thread nD τ) (due σ c) ∅ ∗ Pipeline.launchCred (due σ) c ∗ prngReg c (ρ c) ∗ parked (F := F) c)
      ⊢ (iprop(rest m σ c ∗ (semVal (cell c 0) 0 ∗ parked c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems_eq]
    unfold rest
    iintro ⟨Hh, Hb, HO, Hcr, Hp, HG⟩
    ihave Hc := (credits (F := F) σ c) $$ Hcr
    isplitr [Hb HG]
    · isplitl [Hh]; · iexact Hh
      isplitl [Hc]; · iexact Hc
      isplitl [HO]; · iexact HO
      iexists (ρ c); iexact Hp
    isplitl [Hb] <;> iassumption
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 0) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop(openTok ER (cell c 1) ∗ openTok ER (cell c 2))) :=
    Entails.of_eq (by
      rw [bigSep_map, bigSep_univ_prod]
      exact bigSep_congr fun c _ => BI.bigSep_fin_two (fun k : Fin 2 => (openTok ER (cell c k.succ) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (due σ c) ∅ ∗ Pipeline.launchCred (due σ) c ∗ prngReg c (ρ c) ∗ parked (F := F) c))
      ⊢ (bigSep Finset.univ fun c : Dev nD => iprop(rest m σ c ∗ (semVal (cell c 0) 0 ∗ parked c)) : sProp 𝕄) from bigSep_mono fun c _ => hcore c) $$ H
  ihave H2 := unzip $$ H'; icases H2 with ⟨HB, H3⟩
  ihave H4 := unzip $$ H3; icases H4 with ⟨Hv, HG⟩
  ihave Hu := (Entails.of_eq (bigSep_parked (F := F))) $$ HG
  imod (Rounds.fund_launch ER (sched (block m) σ) cells_disjoint (fun g _ h => h) allDuties) $$ [Hv Hu] with ⟨%κ, -, #Hinv, #Hr, Hat, Hopen, Htok⟩
  · isplitl [Hv]
    · iapply hv $$ Hv
    · iexact Hu
  imodintro
  iapply (bigSep_with_persistent (R := records m σ κ) (Φ := fun c => iprop(dealt σ c ∗ rest m σ c)) fun c _ => first_of m σ κ c)
  isplitr
  · unfold records
    isplitr; · iexact Hinv
    iexact Hr
  iapply zip
  isplitr [HB]
  · unfold dealt
    iapply zip
    isplitl [Hat Hopen]
    · iapply zip; isplitl [Hat]; · iapply hat $$ Hat
      iapply hopen $$ Hopen
    iapply (duties_dealt (F := F) σ) $$ Htok
  · iexact HB

/-! ## The run -/

theorem unscoped_eq : ∀ sm : SemLoc sig, sm.isScoped .tc = false → sm = part 0 := by decide

/-- What the run ends in: the arguments as they were, the result of device `c` at what `x` was on device `σ.symm c`. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v12) = m ((σ.symm c : Thread nD τ).loc main_arg0)) ∧ r.2.sem = fun _ => 0

set_option backward.isDefEq.respectTransparency.types false in
/-- From any memory whose host code names `σ` on every device, with every counter at zero, every weakly fair execution of
    @main on the sixteen devices terminates, and ends as `Ends` says, with every counter at zero. -/
theorem run_main (hw : ∀ c, Names σ c (words m c)) :
    θ_run (defs (F := F)) (onTc (τ := τ) (main (F := F))) ⟨m, fun _ => 0, ρ⟩ (Ends m σ) := by
  refine Pipeline.θ_run_regions_kit_dev_sems (pcfgs (F := F)) adm (datas m σ) () cellOf_inj EP defs₀ 𝒱₀ L lv m ρ main
    (segs m 𝒱₀ L lv (fun _ => riding m σ) () (datas m σ) (region m σ hw))
    (fun c Q => by
      rewrite [main_chain c, Pipeline.Seg.run_eq_chain,
        show (segs m 𝒱₀ L lv (fun _ => riding m σ) () (datas m σ) (region m σ hw) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (due σ) L_of_ne parked u₀ ?_ (T₀ := first m σ) (Tₙ := last m σ)
    (hch := fun c => ⟨.rfl, .rfl, .rfl, .rfl, .rfl, region_pre m σ hw c, region_post m σ hw c⟩)
    (hinit := launch m ρ σ)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v12) = m ((σ.symm c : Thread nD τ).loc main_arg0)) ∧ s.sem (cell c 0) = 0)
    (hfin := fun c s' => ?_) (hQ := fun s h hs => ⟨fun c => (h c).1, sem_eq_zero hs fun c sm hsm => ?_⟩)
  · unfold u₀
    iintro Hu
    ihave H := (ownU_pair _ _) $$ Hu
    icases H with ⟨HP, HX⟩
    imodintro
    isplitl [HP]; · iexact HP
    rw [bigSep_parked]; iexact HX
  · have hr (r : Ref sig .tc) (h : ¬ r.isScoped) : Proc.devRef .tc r ∈ Pipeline.ucRefs τ sig :=
      Finset.mem_filter.mpr ⟨StableHlo.devRef_mem_tcRefs r, h⟩
    dsimp only [last]
    unfold StableHlo.held
    iintro ⟨⟨Hh, Hb⟩, HSI⟩
    icombine HSI Hb gives %hb
    ihave Hr := (pointsTo_read_all (Pipeline.ucRefs τ sig) (fun b => ((c : Thread nD τ).1, b)) (after m σ c) s') $$ [Hh HSI]
    · isplitl [Hh] <;> iassumption
    icases Hr with ⟨%h, HSI⟩
    imodintro
    isplitr
    · ipureintro
      exact ⟨⟨(h _ (hr main_arg0 (by decide))).trans (after_arg0 m σ c), (h _ (hr main_arg1 (by decide))).trans (after_arg1 m σ c),
        (h _ (hr main_v12 (by decide))).trans ((after_result m σ c).trans (block_eq m (σ.symm c)))⟩, by simpa using hb⟩
    iexact HSI
  · obtain rfl := unscoped_eq sm hsm
    exact (h c).2

end Cert.Permute

end
-- ==== Proof.Table.lean ====
/-
  The host code ahead of the kernel call: from a table that lists a permutation `σ` of the devices, device `c` computes the two
  words its kernel reads, the entry of the table at `c` and the place in the table at which `c` stands.
-/
module

public import proofs.«01_k».proof.Proof.Region
public import Idealize.ShloMosaic.Lib.DynamicIndex
public import Idealize.ShloMosaic.PureOps.Reduce
public import Idealize.ShloMosaic.Lib.StableHlo.RunClose
public import Idealize.ShloMosaic.Lib.Pointwise.Index

@[expose] public section

noncomputable section

namespace Cert.Permute

open Cert.KernelIdeal Cert.KernelIdeal.Gen

open Idealize.ShloMosaic Idealize.ShloMosaic.TcCoe

variable {F : FTy → Type} [FloatOps F]

/-- Position `i` of the table. -/
def entry (i : Fin 16) : S16.Idx := fun a => Fin.cast (by fin_cases a; rfl) i

/-- Every index of the table is a position. -/
theorem eq_entry (j : S16.Idx) : j = entry (j 0) := by
  funext a; fin_cases a; rfl

/-- The table `t` lists the permutation `σ`: entry `i` is the word of `σ i`. -/
def Lists (σ : Equiv.Perm (Fin 16)) (t : S16.Idx → BitVec 32) : Prop := ∀ i, t (entry i) = BitVec.ofNat 32 (σ i).val

/-- Words of numbers below sixteen are equal only when the numbers are. -/
theorem ofNat_inj : ∀ a b : Fin 16, BitVec.ofNat 32 a.val = BitVec.ofNat 32 b.val ↔ a = b := by decide

/-! ## The device's own number and the entry at it -/

variable (m : (ℓ : Loc nD τ sig) → Buf (Elt F) ℓ)

/-- Device `c`'s copy of the table. -/
def table (c : Dev nD) : S16.Idx → BitVec 32 := m ((c : Thread nD τ).loc main_arg1)

/-- The host code computes the device's own number. -/
theorem number_eq (c : Dev nD) : V1 m c main_v4 = fun _ => BitVec.ofNat 32 c.val := by
  unfold V1 hostOps0
  after_results_simp
  funext i
  show IntOp.remui .host (IntOp.divui .host (BitVec.ofNat 32 c.val) 1#32) 16#32 = _
  revert c
  decide

/-- The index the host code slices the table at: the number given, sixteen more where it is negative. -/
def sliceIndex (x : S_.Idx → BitVec 32) : S_.Idx → BitVec 32 :=
  select (cmpi .slt x (constantI S_ 32 0#32)) (addi x (constantI S_ 32 16#32)) x

/-- What the indexing reads, of any buffers. -/
theorem indexing (W : Valuation τ sig (Elt F)) :
    StableHlo.after hostOps0_1 W main_v5
      = shapeCast S_ (Host.dynamicSlice S1 (W main_arg1 : S16.Idx → BitVec 32)
          (fun k => ((![sliceIndex (W main_v4)] : Fin 1 → S_.Idx → BitVec 32) k (Shape.Idx.first h_S_)).toInt) sliceFits_S16_S1)
          shapeCasts_S1_S_ := by
  unfold hostOps0_1
  after_results_simp_entrywise
  rfl

/-- The index is the number itself where that is a device's. -/
theorem sliceIndex_eq (c : Dev nD) (i : S_.Idx) : sliceIndex (fun _ => BitVec.ofNat 32 c.val) i = BitVec.ofNat 32 c.val := by
  show Scalar.select (IntOp.cmpi .slt (BitVec.ofNat 32 c.val) 0#32) (IntOp.addi (BitVec.ofNat 32 c.val) 16#32) (BitVec.ofNat 32 c.val) = _
  revert c
  decide

/-- A slice of one entry at `c` is the entry. -/
theorem slice_fits (c : Dev nD) : S16.Slices ![c.val] S1 := ⟨rfl, fun a => by fin_cases a; exact Nat.succ_le_of_lt (show c.val < 16 from c.isLt)⟩

/-- The first word: the table's entry at the device's own number. -/
theorem target_eq (c : Dev nD) : V2 m c main_v5 = fun _ => table m c (entry c) := by
  unfold V2
  rw [indexing, number_eq, V1_of m c main_arg1 (by decide),
    Host.dynamicSlice_eq_extractStridedSlice S1 _ _ ![c.val] sliceFits_S16_S1 (slice_fits c) (fun a => by
      fin_cases a
      exact (congrArg BitVec.toInt (sliceIndex_eq c _)).trans (toInt_ofNat_of_lt (lt_trans (show c.val < 16 from c.isLt) (by decide))))]
  funext i
  show table m c _ = table m c _
  congr 1
  funext a
  fin_cases a
  refine Fin.ext ?_
  show c.val + (Shape.reshapeEquiv shapeCasts_S1_S_ i 0).val = c.val
  have h : (Shape.reshapeEquiv shapeCasts_S1_S_ i 0).val < 1 := (Shape.reshapeEquiv shapeCasts_S1_S_ i 0).isLt
  omega

/-! ## The place of the device's number -/

/-- The pairs the search runs over, of a table whose mask is set at `k` alone: value and position. -/
def pairs (k : Fin 16) : List (BitVec 1 × BitVec 32) :=
  (List.finRange 16).map fun i => (BitVec.ofBool (i == k), BitVec.ofNat 32 i.val)

/-- The search for the greatest bit, over a mask set at `k` alone, ends with the position `k`. -/
theorem search (k : Fin 16) : ((pairs k).foldl reducer_argmax_i1_i32 (0#1, 0#32)).2 = BitVec.ofNat 32 k.val := by
  revert k
  decide

/-- The table has sixteen entries. -/
theorem numel_S16 : S16.numel = 16 := Shape.numel_rank1 _

/-- Position `n` in row-major order is entry `n`. -/
theorem at_position (n : Fin S16.numel) : S16.rowMajor.symm n = entry (n.cast numel_S16) :=
  (S16.rowMajor.symm_apply_eq).2 (Fin.ext (by rw [Shape.rowMajor_val_one]; rfl))

/-- The numbers below `n` are those below an equal `k`. -/
theorem finRange_cast {n k : Nat} (h : n = k) : (List.finRange n).map (Fin.cast h) = List.finRange k := by
  subst h
  exact List.map_id _

/-- What the search runs over, of a mask set at the position `k` alone. -/
theorem fiber_eq (x : S16.Idx → BitVec 1) (k : Fin 16) (hx : ∀ i, x (entry i) = BitVec.ofBool (i == k)) (j : S_.Idx) :
    Host.argReduceFiber x (iotaInDim S16 32 0) reducesTo_S16_S_d0 j = pairs k := by
  unfold Host.argReduceFiber pairs
  rw [List.filter_eq_self.2 (fun n _ => decide_eq_true (Subsingleton.elim _ _))]
  rw [List.map_congr_left (g := (fun i : Fin 16 => (BitVec.ofBool (i == k), BitVec.ofNat 32 i.val)) ∘ Fin.cast numel_S16) (fun n _ => ?_),
    ← List.map_map]
  · exact congrArg _ (finRange_cast numel_S16)
  · rw [at_position n]
    exact Prod.ext (hx _) rfl

/-- What the search finds, of any buffers. -/
theorem searching (W : Valuation τ sig (Elt F)) :
    StableHlo.after hostOps0_3 W main_v8
      = fun j => (Host.reduce2 reducer_argmax_i1_i32 (W main_v7 : S16.Idx → BitVec 1) (iotaInDim S16 32 0) (constantI S_ 1 0#1) (constantI S_ 32 0#32)
          reducesTo_S16_S_d0 h_S_ j).2 := by
  unfold hostOps0_3
  after_results_simp
  rfl

/-- The mask the search runs over, of any buffers. -/
theorem masking (W : Valuation τ sig (Elt F)) :
    StableHlo.after hostOps0_2 W main_v7
      = cmpi .eq (W main_arg1 : S16.Idx → BitVec 32) (broadcastInDim S16 ![] bcast_S_S16 (W main_v4 : S_.Idx → BitVec 32)) := by
  unfold hostOps0_2
  after_results_simp

/-- The mask: where the table names the device. -/
theorem mask_eq (c : Dev nD) (i : Fin 16) : V3 m c main_v7 (entry i) = IntOp.cmpi .eq (table m c (entry i)) (BitVec.ofNat 32 c.val) := by
  unfold V3
  rw [masking, V2_of m c main_v4 (by decide), number_eq, V2_of m c main_arg1 (by decide), V1_of m c main_arg1 (by decide)]
  rfl

/-- The second word: where a table that lists `σ` names the device. -/
theorem origin_eq (σ : Equiv.Perm (Dev nD)) (c : Dev nD) (ht : Lists σ (table m c)) :
    V4 m c main_v8 = fun _ => BitVec.ofNat 32 (σ.symm c).val := by
  unfold V4
  rw [searching]
  funext j
  rw [Host.reduce2_eq_foldl_fiber, fiber_eq (V3 m c main_v7) (σ.symm c) (fun i => ?_) j]
  · exact search _
  · rw [mask_eq, ht i]
    show BitVec.ofBool (BitVec.ofNat 32 (σ i).val == BitVec.ofNat 32 c.val) = _
    congr 1
    rw [Bool.eq_iff_iff, beq_iff_eq, beq_iff_eq, ofNat_inj, Equiv.eq_symm_apply]

/-! ## The two words -/

/-- The stack of the two words, of any buffers. -/
theorem stacking (W : Valuation τ sig (Elt F)) :
    StableHlo.after hostOps0_4 W main_v11
      = concatenate S2 0 [⟨S1, broadcastInDim S1 ![] bcast_S_S1 (W main_v5 : S_.Idx → BitVec 32)⟩,
          ⟨S1, broadcastInDim S1 ![] bcast_S_S1 (W main_v8 : S_.Idx → BitVec 32)⟩] concatenates_S1_S1_S2_d0 := by
  unfold hostOps0_4
  after_results

/-- On a device whose table lists `σ`, the host code hands the kernel the device `σ` sends it to and the one it receives from. -/
theorem names_of_lists (σ : Equiv.Perm (Dev nD)) (c : Dev nD) (ht : Lists σ (table m c)) : Names σ c (words m c) := by
  unfold words V5
  rw [stacking, origin_eq m σ c ht, V4_of m c main_v5 (by decide), V3_of m c main_v5 (by decide), target_eq m c, ht c]
  constructor
  · rfl
  · rfl

end Cert.Permute

end
-- ==== Proof.Reference.lean ====
/-
  What the reference computes: from a table that lists a permutation `σ`, row `i` of its result is row `σ⁻¹ i` of its argument.
  Sorting the numbers `0, …, 15` by the table's entries lists `σ⁻¹`; indexing takes those rows; and over the extended reals the
  two changes of format are the identity.
-/
module

public import proofs.«01_k».proof.Proof.Table
public import proofs.«01_k».proof.Proof.Gen.ReferenceIdeal.Run
public import Idealize.ShloMosaic.Lib.SortFacts
public import Idealize.ShloMosaic.Lib.Quiescent
public import Idealize.ShloMosaic.PureOps.Ideal

@[expose] public section

noncomputable section

namespace Cert.Permute

open Cert.ReferenceIdeal Cert.ReferenceIdeal.Gen
open Idealize.ShloMosaic Idealize.ShloMosaic.TcCoe Idealize.SL.Sem

/-! ## The sort -/

/-- The comparator orders the words of two numbers below sixteen as the numbers. -/
theorem comparator_ofNat (p q : BitVec 32) : ∀ a b : Fin 16,
    (comparator_i32_i32_d0 (BitVec.ofNat 32 a.val, p) (BitVec.ofNat 32 b.val, q) == 1#1) = decide (a < b) := by
  show ∀ a b : Fin 16, (IntOp.cmpi .slt (BitVec.ofNat 32 a.val) (BitVec.ofNat 32 b.val) == 1#1) = decide (a < b)
  decide

/-- The stable sort by the values of a permutation puts the position `σ⁻¹ i` in place `i`. -/
theorem sortedFrom_perm {n : Nat} (σ : Equiv.Perm (Fin n)) (i : Fin n) :
    sortedFrom (fun k k' => decide (σ k < σ k')) i = σ.symm i := by
  have listed : sortPositions n (fun k k' => decide (σ k < σ k')) = List.ofFn σ.symm := sortPositions_of_perm σ.symm
  unfold sortedFrom
  rw [List.get_of_eq listed]
  simp

/-- Argsort of a table that lists `σ` lists `σ⁻¹`. -/
theorem argsort_eq (σ : Equiv.Perm (Fin 16)) (t : S16.Idx → BitVec 32) (ht : Lists σ t) (i : Fin 16) :
    (Host.sort2 S16 0 comparator_i32_i32_d0 t (iotaInDim S16 32 0)).2 (entry i) = BitVec.ofNat 32 (σ.symm i).val := by
  have along : ∀ k : Fin 16, (entry i).along (0 : Fin 1) k = entry k := fun k => by
    rw [Shape.Idx.along_rank1]; funext a; fin_cases a; rfl
  have order : (fun k k' : Fin 16 => comparator_i32_i32_d0
        (t ((entry i).along (0 : Fin 1) k), iotaInDim S16 32 0 ((entry i).along (0 : Fin 1) k))
        (t ((entry i).along (0 : Fin 1) k'), iotaInDim S16 32 0 ((entry i).along (0 : Fin 1) k')) == 1#1)
      = fun k k' => decide (σ k < σ k') := by
    funext k k'
    rw [along k, along k', ht k, ht k']
    exact comparator_ofNat _ _ _ _
  show iotaInDim S16 32 0 ((entry i).along (0 : Fin 1) (sortedFrom (fun k k' : Fin 16 => comparator_i32_i32_d0
        (t ((entry i).along (0 : Fin 1) k), iotaInDim S16 32 0 ((entry i).along (0 : Fin 1) k))
        (t ((entry i).along (0 : Fin 1) k'), iotaInDim S16 32 0 ((entry i).along (0 : Fin 1) k')) == 1#1) i)) = _
  rw [order]
  exact congrArg (iotaInDim S16 32 0) ((along _).trans (congrArg entry (sortedFrom_perm σ i)))

/-! ## The indexing -/

/-- The row numbers that the reference indexes with: a negative one counts from the end. -/
def rowsOf (t : S16.Idx → BitVec 32) : S16x1.Idx → BitVec 32 :=
  let s := (Host.sort2 S16 0 comparator_i32_i32_d0 t (iotaInDim S16 32 0)).2
  broadcastInDim S16x1 ![0] Facts₀.bcast_S16_S16x1_0
    (select (cmpi .slt s (broadcastInDim S16 ![] Facts₀.bcast_S_S16 (constantI S_ 32 0#32)))
      (addi s (broadcastInDim S16 ![] Facts₀.bcast_S_S16 (constantI S_ 32 16#32))) s)

/-- A row number, or, of a negative one, the row that it counts to from the end. -/
def wrapped (w : BitVec 32) : BitVec 32 := Scalar.select (IntOp.cmpi .slt w 0#32) (w + 16#32) w

/-- The row number at an index is that of the sorted list's entry. -/
theorem rowsOf_entry (t : S16.Idx → BitVec 32) (k : S16x1.Idx) (i : Fin 16) (hi : (k 0).val = i.val) :
    rowsOf t k = wrapped ((Host.sort2 S16 0 comparator_i32_i32_d0 t (iotaInDim S16 32 0)).2 (entry i)) := by
  have read : ∀ z : S16.Idx → BitVec 32, broadcastInDim S16x1 ![0] Facts₀.bcast_S16_S16x1_0 z k = z (entry i) := fun z => by
    refine congrArg z ?_
    funext a; fin_cases a; exact Fin.ext hi
  unfold rowsOf
  rw [read]
  generalize (Host.sort2 S16 0 comparator_i32_i32_d0 t (iotaInDim S16 32 0)).2 = s
  rfl

/-- None is negative, so they are the numbers `σ⁻¹ i`. -/
theorem rowsOf_eq (σ : Equiv.Perm (Fin 16)) (t : S16.Idx → BitVec 32) (ht : Lists σ t) (k : S16x1.Idx) (i : Fin 16)
    (hi : (k 0).val = i.val) : rowsOf t k = BitVec.ofNat 32 (σ.symm i).val := by
  have same : ∀ p : Fin 16, wrapped (BitVec.ofNat 32 p.val) = BitVec.ofNat 32 p.val := by decide
  rw [rowsOf_entry t k i hi, argsort_eq σ t ht]
  exact same _

/-- Where the row numbers hold `p` at the row of `j`, indexing reads row `p` at `j`'s other two coordinates. -/
theorem gather_row_eq {α : Type} (x : S16x1024x1024.Idx → α) (w : S16x1.Idx → BitVec 32) (j : S16x1024x1024.Idx) (p : Fin 16)
    (hw : ∀ k : S16x1.Idx, (k 0).val = (j 0).val → w k = BitVec.ofNat 32 p.val) :
    Host.gather gather_S16x1024x1024_S16x1_S16x1024x1024_12_0_n_n_0_1_110241024 x w j = x (Function.update j 0 p) := by
  have signed : ∀ p : Fin 16, min (BitVec.ofNat 32 p.val).toInt.toNat (16 - 1) = p.val := by decide
  unfold Host.gather
  refine congrArg x (funext fun a => Fin.ext ?_)
  match a with
  | ⟨0, _⟩ =>
    show min (w _).toInt.toNat (16 - 1) = p.val
    rw [hw _ rfl]
    exact signed p
  | ⟨1, _⟩ => exact Nat.zero_add _
  | ⟨2, _⟩ => exact Nat.zero_add _

/-- The reference's result: the rows of `x` in the order `σ⁻¹`. -/
def moved {α : Type} (σ : Equiv.Perm (Fin 16)) (x : S16x1024x1024.Idx → α) : S16x1024x1024.Idx → α :=
  fun j => x (Function.update j 0 (σ.symm (j 0)))

/-- Indexing with the row numbers moves the rows by the permutation that the table lists. -/
theorem gather_eq {α : Type} (σ : Equiv.Perm (Fin 16)) (t : S16.Idx → BitVec 32) (ht : Lists σ t) (x : S16x1024x1024.Idx → α) :
    Host.gather gather_S16x1024x1024_S16x1_S16x1024x1024_12_0_n_n_0_1_110241024 x (rowsOf t) = moved σ x := by
  funext j
  exact gather_row_eq x (rowsOf t) j (σ.symm (j 0)) fun k hk => rowsOf_eq σ t ht k (j 0) hk

/-! ## The run -/

variable (m : (ℓ : Loc nD τ sig) → Buf (Elt Ideal) ℓ) (ρ : Dev nD → PrngReg)

/-- From any memory the reference ends, with its arguments unchanged and every counter at zero. -/
theorem reference_frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Cert.ReferenceIdeal.Value.run m ρ)

/-- From a table that lists `σ`, over the extended reals, its result is the argument with the rows moved by `σ`. -/
theorem reference_run (σ : Equiv.Perm (Fin 16)) (hσ : ∀ c : Dev nD, Lists σ (m ((c.tc : Thread nD τ).loc main_arg1))) :
    θ_run defs (onTc (τ := τ) (main (F := Ideal))) ⟨m, fun _ => 0, ρ⟩ fun r => ∀ c : Dev nD,
      r.2.mem ((c.tc : Thread nD τ).loc main_v9) = moved σ (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1).trans (gather_eq σ _ (hσ c) _), (h c).2⟩) (Cert.ReferenceIdeal.Value.run m ρ)

end Cert.Permute

end
-- ==== Proof.Equation.lean ====
/-
  Kernel against reference: block `c` of an array whose rows a permutation `σ` moved is block `σ⁻¹ c` of the array, so the device
  that receives from `σ⁻¹ c` holds its block of the reference's result. And what the claims' preconditions say: a table that
  equals a rolled list of numbers lists the permutation which subtracts the shift.
-/
module

public import proofs.«01_k».proof.Proof.Launch
public import proofs.«01_k».proof.Proof.Reference
public import Idealize.ShloMosaic.Lib.Layout
public import Idealize.ShloMosaic.Lib.StableHlo.Predicate

@[expose] public section

noncomputable section

namespace Cert.Permute

open Idealize.ShloMosaic Idealize.ShloMosaic.TcCoe Idealize.SL.Sem

/-! ## The blocks -/

/-- One row of the whole array, as a device holds it. -/
abbrev Row : Shape := ⟨3, ![1, 1024, 1024]⟩
/-- The whole array. -/
abbrev Whole : Shape := ⟨3, ![16, 1024, 1024]⟩

/-- Block `c` of the moved rows is block `σ⁻¹ c` of the rows. -/
theorem block_moved {α : Type} (σ : Equiv.Perm (Fin 16)) (c : Fin 16) (v : Whole.Idx → α) :
    Layout.block Row Whole 0 16 c (moved σ v) = Layout.block Row Whole 0 16 (σ.symm c) v := by
  funext i
  have tiles : Layout.Tiles Row Whole 0 16 := by decide
  have first : ∀ d : Fin 16, (tiles.idx d i 0).val = d.val := fun d => by
    have hi : (i 0).val < 1 := (i 0).isLt
    show d.val * 1 + (i 0).val = d.val
    omega
  show v (Function.update (tiles.idx c i) 0 (σ.symm (tiles.idx c i 0))) = v (tiles.idx (σ.symm c) i)
  refine congrArg v (funext fun a => Fin.ext ?_)
  match a with
  | ⟨0, _⟩ =>
    rw [show tiles.idx c i 0 = c from Fin.ext (first c)]
    exact (first (σ.symm c)).symm
  | ⟨1, _⟩ => rfl
  | ⟨2, _⟩ => rfl

/-! ## The tables -/

/-- Rolling the list `0, …, 15` by `k` puts `i - k` in place `i`, modulo sixteen. -/
def shift (k : Fin 16) : Equiv.Perm (Fin 16) := Equiv.subRight k

/-- A list of sixteen numbers. -/
abbrev Numbers : Shape := ⟨1, ![16]⟩

/-- The last `k` numbers are a slice of the list, -/
theorem last_slices : ∀ k : Fin 16, Numbers.Slices ![16 - k.val] ⟨1, ![k.val]⟩ := by decide
/-- the others are, -/
theorem first_slices : ∀ k : Fin 16, Numbers.Slices ![0] ⟨1, ![16 - k.val]⟩ := by decide
/-- and the two together make up the list. -/
theorem parts_concatenate : ∀ k : Fin 16, Shape.Concatenates [⟨1, ![k.val]⟩, ⟨1, ![16 - k.val]⟩] Numbers 0 := by decide

/-- The list `0, …, 15` rolled by `k`: its last `k` entries, then the others. -/
def rolled (k : Fin 16) : IVec Numbers 32 :=
  concatenate Numbers 0
    [⟨⟨1, ![k.val]⟩, extractStridedSlice ⟨1, ![k.val]⟩ ![16 - k.val] (iotaInDim Numbers 32 0) (last_slices k)⟩,
      ⟨⟨1, ![16 - k.val]⟩, extractStridedSlice ⟨1, ![16 - k.val]⟩ ![0] (iotaInDim Numbers 32 0) (first_slices k)⟩]
    (parts_concatenate k)

/-- The rolled list lists the shift. -/
theorem lists_rolled : ∀ k : Fin 16, Lists (shift k) (rolled k) := by
  unfold Lists rolled
  decide

/-- What the precondition says of a table: compared with the list rolled by `k`, every entry is equal. -/
def IsRoll (k : Fin 16) (t : IVec Numbers 32) : Prop := cmpi .eq t (rolled k) = fun _ => 1#1

/-- Such a table lists the shift. -/
theorem lists_of_isRoll (k : Fin 16) (t : IVec Numbers 32) (h : IsRoll k t) : Lists (shift k) t := fun i => by
  rw [show t (entry i) = rolled k (entry i) from StableHlo.Predicate.cmpi_eq_iff.1 (congrFun h (entry i))]
  exact lists_rolled k i

/-! ## The two runs -/

/-- With one table that lists `σ` on all devices, and the blocks of one array as their `x`: the devices end holding the blocks of
    what the reference ends holding, over the extended reals. -/
theorem value (σ : Equiv.Perm (Fin 16))
    (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (ρ' : Dev ReferenceIdeal.nD → PrngReg)
    (hσ : ∀ c, Lists σ (table m c))
    (hm : ∀ c : Dev KernelIdeal.nD,
      m ((c.tc : Thread KernelIdeal.nD KernelIdeal.τ).loc KernelIdeal.main_arg0)
        = Layout.block Row Whole 0 16 c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1)
        = m' (((0 : Dev ReferenceIdeal.nD).tc : Thread ReferenceIdeal.nD ReferenceIdeal.τ).loc ReferenceIdeal.main_arg1)) :
    ∃ v : Buf (Elt Ideal) (((0 : Dev ReferenceIdeal.nD).tc : Thread ReferenceIdeal.nD ReferenceIdeal.τ).loc ReferenceIdeal.main_v9),
      θ_run (KernelIdeal.defs (F := Ideal)) (onTc (τ := KernelIdeal.τ) (KernelIdeal.main (F := Ideal))) ⟨m, fun _ => 0, ρ⟩ (fun r =>
        ∀ c : Dev KernelIdeal.nD,
          r.2.mem ((c.tc : Thread KernelIdeal.nD KernelIdeal.τ).loc KernelIdeal.main_v12) = Layout.block Row Whole 0 16 c v
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, ρ'⟩ (fun r =>
          r.2.mem (((0 : Dev ReferenceIdeal.nD).tc : Thread ReferenceIdeal.nD ReferenceIdeal.τ).loc ReferenceIdeal.main_v9) = v
          ∧ r.2.mem (((0 : Dev ReferenceIdeal.nD).tc : Thread ReferenceIdeal.nD ReferenceIdeal.τ).loc ReferenceIdeal.main_arg0)
            = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1)
            = m' (((0 : Dev ReferenceIdeal.nD).tc : Thread ReferenceIdeal.nD ReferenceIdeal.τ).loc ReferenceIdeal.main_arg1)) := by
  refine ⟨moved σ (m' (((0 : Dev ReferenceIdeal.nD).tc : Thread ReferenceIdeal.nD ReferenceIdeal.τ).loc ReferenceIdeal.main_arg0)), ?_, ?_⟩
  · refine (θ_run KernelIdeal.defs _ _).mono (fun r h c => ?_) (run_main m ρ σ fun c => names_of_lists m σ c (hσ c))
    obtain ⟨h0, h1, hv⟩ := h.1 c
    exact ⟨hv.trans ((hm (σ.symm c)).1.trans (block_moved σ c _).symm), h0, h1⟩
  · refine (θ_run ReferenceIdeal.defs _ _).mono (fun r h => h 0) (reference_run m' ρ' σ fun c => ?_)
    obtain rfl : c = 0 := Subsingleton.elim _ _
    have e := (hm 0).2
    intro i
    rw [← e]
    exact hσ 0 i

end Cert.Permute

end
-- ==== Proof.lean ====
/-
  The claims about the permutation of shards, assembled. Each is an instance, at one shift, of what the modules under proof/Proof/
  prove for any permutation that all devices' tables list: Launch.lean the kernel's run, Table.lean what its host code computes,
  Reference.lean the reference's run, Equation.lean the equation between the two.
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_roll_by_1_Kernel
public import proofs.«01_k».proof.Proof.Gen.Pre_roll_by_2_Kernel
public import proofs.«01_k».proof.Proof.Gen.Pre_roll_by_3_Kernel
public import proofs.«01_k».proof.Proof.Gen.Pre_roll_by_4_Kernel
public import proofs.«01_k».proof.Proof.Gen.Pre_roll_by_5_Kernel
public import proofs.«01_k».proof.Proof.Gen.Pre_roll_by_6_Kernel
public import proofs.«01_k».proof.Proof.Gen.Pre_roll_by_7_Kernel
public import proofs.«01_k».proof.Proof.Gen.Pre_roll_by_8_Kernel
public import proofs.«01_k».proof.Proof.Gen.Pre_roll_by_9_Kernel
public import proofs.«01_k».proof.Proof.Gen.Pre_roll_by_10_Kernel
public import proofs.«01_k».proof.Proof.Gen.Pre_roll_by_11_Kernel
public import proofs.«01_k».proof.Proof.Gen.Pre_roll_by_12_Kernel
public import proofs.«01_k».proof.Proof.Gen.Pre_roll_by_13_Kernel
public import proofs.«01_k».proof.Proof.Gen.Pre_roll_by_14_Kernel
public import proofs.«01_k».proof.Proof.Gen.Pre_roll_by_15_Kernel
public import proofs.«01_k».proof.Proof.Gen.Pre_roll_by_1_ReferenceIdeal
public import proofs.«01_k».proof.Proof.Gen.Pre_roll_by_2_ReferenceIdeal
public import proofs.«01_k».proof.Proof.Gen.Pre_roll_by_3_ReferenceIdeal
public import proofs.«01_k».proof.Proof.Gen.Pre_roll_by_4_ReferenceIdeal
public import proofs.«01_k».proof.Proof.Gen.Pre_roll_by_5_ReferenceIdeal
public import proofs.«01_k».proof.Proof.Gen.Pre_roll_by_6_ReferenceIdeal
public import proofs.«01_k».proof.Proof.Gen.Pre_roll_by_7_ReferenceIdeal
public import proofs.«01_k».proof.Proof.Gen.Pre_roll_by_8_ReferenceIdeal
public import proofs.«01_k».proof.Proof.Gen.Pre_roll_by_9_ReferenceIdeal
public import proofs.«01_k».proof.Proof.Gen.Pre_roll_by_10_ReferenceIdeal
public import proofs.«01_k».proof.Proof.Gen.Pre_roll_by_11_ReferenceIdeal
public import proofs.«01_k».proof.Proof.Gen.Pre_roll_by_12_ReferenceIdeal
public import proofs.«01_k».proof.Proof.Gen.Pre_roll_by_13_ReferenceIdeal
public import proofs.«01_k».proof.Proof.Gen.Pre_roll_by_14_ReferenceIdeal
public import proofs.«01_k».proof.Proof.Gen.Pre_roll_by_15_ReferenceIdeal

@[expose] public section

noncomputable section

namespace Cert.Proof

open Idealize.ShloMosaic Idealize.SL.Sem Cert.Permute

/-! ## The frames -/

/-- Where every device's table is rolled by `k`, every device's table lists the shift by `k`. -/
theorem lists {F : FTy → Type} [FloatOps F] (k : Fin 16)
    (m : (ℓ : Loc Cert.KernelIdeal.nD Cert.KernelIdeal.τ Cert.KernelIdeal.sig) → Buf (Elt F) ℓ)
    (h : ∀ c, IsRoll k (table m c)) (c : Dev Cert.KernelIdeal.nD) : Lists (shift k) (table m c) :=
  lists_of_isRoll k _ (h c)

/-- With the table rolled by `k` on every device, the kernel ends over any float values, with its arguments unchanged and every
    counter at zero. -/
theorem ends {F : FTy → Type} [FloatOps F] (k : Fin 16)
    (m : (ℓ : Loc Cert.KernelIdeal.nD Cert.KernelIdeal.τ Cert.KernelIdeal.sig) → Buf (Elt F) ℓ) (ρ : Dev Cert.KernelIdeal.nD → PrngReg)
    (h : ∀ c, IsRoll k (table m c)) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run Cert.KernelIdeal.defs _ _).mono (fun _ r => ⟨fun c => ⟨(r.1 c).1, (r.1 c).2.1⟩, r.2⟩)
    (run_main m ρ (shift k) fun c => names_of_lists m _ c (lists k m h c))

set_option maxHeartbeats 4000000 in
set_option smartUnfolding false in
/-- The kernel and its ideal form are one text, so a run of the one is a run of the other. -/
theorem same_text {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

/-- So the kernel itself ends in the same way. -/
theorem ends_kernel (k : Fin 16) (m : (ℓ : Loc Cert.Kernel.nD Cert.Kernel.τ Cert.Kernel.sig) → Buf (Elt Bits) ℓ)
    (ρ : Dev Cert.Kernel.nD → PrngReg)
    (h : ∀ c : Dev Cert.Kernel.nD, IsRoll k (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, ρ⟩ fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
      ∧ r.2.sem = fun _ => 0 :=
  same_text (ends (F := Bits) k m ρ h)

/-! ## The claims -/

theorem claim : Cert.Claim :=
  ⟨Cert.Kernel.Gen.facts, Cert.KernelIdeal.Gen.facts, Cert.ReferenceIdeal.Gen.facts,
    Cert.Pre_roll_by_1_Kernel.Gen.facts, Cert.Pre_roll_by_2_Kernel.Gen.facts, Cert.Pre_roll_by_3_Kernel.Gen.facts,
    Cert.Pre_roll_by_4_Kernel.Gen.facts, Cert.Pre_roll_by_5_Kernel.Gen.facts, Cert.Pre_roll_by_6_Kernel.Gen.facts,
    Cert.Pre_roll_by_7_Kernel.Gen.facts, Cert.Pre_roll_by_8_Kernel.Gen.facts, Cert.Pre_roll_by_9_Kernel.Gen.facts,
    Cert.Pre_roll_by_10_Kernel.Gen.facts, Cert.Pre_roll_by_11_Kernel.Gen.facts, Cert.Pre_roll_by_12_Kernel.Gen.facts,
    Cert.Pre_roll_by_13_Kernel.Gen.facts, Cert.Pre_roll_by_14_Kernel.Gen.facts, Cert.Pre_roll_by_15_Kernel.Gen.facts,
    Cert.Pre_roll_by_1_ReferenceIdeal.Gen.facts, Cert.Pre_roll_by_2_ReferenceIdeal.Gen.facts,
    Cert.Pre_roll_by_3_ReferenceIdeal.Gen.facts, Cert.Pre_roll_by_4_ReferenceIdeal.Gen.facts,
    Cert.Pre_roll_by_5_ReferenceIdeal.Gen.facts, Cert.Pre_roll_by_6_ReferenceIdeal.Gen.facts,
    Cert.Pre_roll_by_7_ReferenceIdeal.Gen.facts, Cert.Pre_roll_by_8_ReferenceIdeal.Gen.facts,
    Cert.Pre_roll_by_9_ReferenceIdeal.Gen.facts, Cert.Pre_roll_by_10_ReferenceIdeal.Gen.facts,
    Cert.Pre_roll_by_11_ReferenceIdeal.Gen.facts, Cert.Pre_roll_by_12_ReferenceIdeal.Gen.facts,
    Cert.Pre_roll_by_13_ReferenceIdeal.Gen.facts, Cert.Pre_roll_by_14_ReferenceIdeal.Gen.facts,
    Cert.Pre_roll_by_15_ReferenceIdeal.Gen.facts,
    ends_kernel 1, ends_kernel 2, ends_kernel 3, ends_kernel 4, ends_kernel 5, ends_kernel 6, ends_kernel 7, ends_kernel 8,
    ends_kernel 9, ends_kernel 10, ends_kernel 11, ends_kernel 12, ends_kernel 13, ends_kernel 14, ends_kernel 15,
    ends 1, ends 2, ends 3, ends 4, ends 5, ends 6, ends 7, ends 8, ends 9, ends 10, ends 11, ends 12, ends 13, ends 14, ends 15,
    fun m ρ _ => reference_frame m ρ, fun m ρ _ => reference_frame m ρ, fun m ρ _ => reference_frame m ρ,
    fun m ρ _ => reference_frame m ρ, fun m ρ _ => reference_frame m ρ, fun m ρ _ => reference_frame m ρ,
    fun m ρ _ => reference_frame m ρ, fun m ρ _ => reference_frame m ρ, fun m ρ _ => reference_frame m ρ,
    fun m ρ _ => reference_frame m ρ, fun m ρ _ => reference_frame m ρ, fun m ρ _ => reference_frame m ρ,
    fun m ρ _ => reference_frame m ρ, fun m ρ _ => reference_frame m ρ, fun m ρ _ => reference_frame m ρ,
    fun m ρ _ => reference_frame m ρ,
    trivial,
    fun m ρ m' ρ' h => value _ m ρ m' ρ' (lists 1 m h),
    fun m ρ m' ρ' h => value _ m ρ m' ρ' (lists 2 m h),
    fun m ρ m' ρ' h => value _ m ρ m' ρ' (lists 3 m h),
    fun m ρ m' ρ' h => value _ m ρ m' ρ' (lists 4 m h),
    fun m ρ m' ρ' h => value _ m ρ m' ρ' (lists 5 m h),
    fun m ρ m' ρ' h => value _ m ρ m' ρ' (lists 6 m h),
    fun m ρ m' ρ' h => value _ m ρ m' ρ' (lists 7 m h),
    fun m ρ m' ρ' h => value _ m ρ m' ρ' (lists 8 m h),
    fun m ρ m' ρ' h => value _ m ρ m' ρ' (lists 9 m h),
    fun m ρ m' ρ' h => value _ m ρ m' ρ' (lists 10 m h),
    fun m ρ m' ρ' h => value _ m ρ m' ρ' (lists 11 m h),
    fun m ρ m' ρ' h => value _ m ρ m' ρ' (lists 12 m h),
    fun m ρ m' ρ' h => value _ m ρ m' ρ' (lists 13 m h),
    fun m ρ m' ρ' h => value _ m ρ m' ρ' (lists 14 m h),
    fun m ρ m' ρ' h => value _ m ρ m' ρ' (lists 15 m h)⟩

end Cert.Proof

end
